-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2x512x512 : Shape := ⟨4, ![4, 2, 512, 512]⟩
abbrev S4x1x512x512 : Shape := ⟨4, ![4, 1, 512, 512]⟩
abbrev S4x3x512x512 : Shape := ⟨4, ![4, 3, 512, 512]⟩
abbrev S8x512x512 : Shape := ⟨3, ![8, 512, 512]⟩
abbrev S1x512x512 : Shape := ⟨3, ![1, 512, 512]⟩
abbrev S512x512 : Shape := ⟨2, ![512, 512]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩
abbrev S4x2x262144 : Shape := ⟨3, ![4, 2, 262144]⟩
abbrev S4x2x500 : Shape := ⟨3, ![4, 2, 500]⟩
abbrev S4x1000 : Shape := ⟨2, ![4, 1000]⟩
abbrev S4x500 : Shape := ⟨2, ![4, 500]⟩
abbrev S_ : Shape := ⟨0, ![]⟩
abbrev S4x500x1 : Shape := ⟨3, ![4, 500, 1]⟩
abbrev S1 : Shape := ⟨1, ![1]⟩
abbrev S1x1x1 : Shape := ⟨3, ![1, 1, 1]⟩
abbrev S4x512x512x2 : Shape := ⟨4, ![4, 512, 512, 2]⟩
abbrev S4x262144x2 : Shape := ⟨3, ![4, 262144, 2]⟩
abbrev S4x500x2 : Shape := ⟨3, ![4, 500, 2]⟩
abbrev S4x500x2x1 : Shape := ⟨4, ![4, 500, 2, 1]⟩
abbrev S1x1x1x1 : Shape := ⟨4, ![1, 1, 1, 1]⟩
abbrev S4x512x512x1 : Shape := ⟨4, ![4, 512, 512, 1]⟩
abbrev S4x262144x1 : Shape := ⟨3, ![4, 262144, 1]⟩
abbrev S4x512x512x3 : Shape := ⟨4, ![4, 512, 512, 3]⟩
abbrev S4x262144x3 : Shape := ⟨3, ![4, 262144, 3]⟩
abbrev S4x500x3 : Shape := ⟨3, ![4, 500, 3]⟩
abbrev S4x500x3x1 : Shape := ⟨4, ![4, 500, 3, 1]⟩
abbrev S4x500x9 : Shape := ⟨3, ![4, 500, 9]⟩

abbrev nBuf : Space → Nat
  | .hbm => 266
  | .vmem => 4
  | .smem => 0
  | _ => 0

abbrev hbmTy0_0 (i : Nat) : BufTy := match i % 128 with
  | 0 => ⟨S4x2x512x512, .f32⟩
  | 1 => ⟨S4x2x512x512, .f32⟩
  | 2 => ⟨S4x1x512x512, .f32⟩
  | 3 => ⟨S4x3x512x512, .f32⟩
  | 4 => ⟨S4x2x512x512, .f32⟩
  | 5 => ⟨S4x2x512x512, .f32⟩
  | 6 => ⟨S8x512x512, .f32⟩
  | 7 => ⟨S8x512x512, .f32⟩
  | 8 => ⟨S4x2x262144, .f32⟩
  | 9 => ⟨S4x2x500, .f32⟩
  | 10 => ⟨S4x2x500, .i32⟩
  | 11 => ⟨S4x1000, .f32⟩
  | 12 => ⟨S4x500, .f32⟩
  | 13 => ⟨S4x500, .i32⟩
  | 14 => ⟨S_, .i32⟩
  | 15 => ⟨S_, .i32⟩
  | 16 => ⟨S4x500, .i32⟩
  | 17 => ⟨S4x500, .i32⟩
  | 18 => ⟨S4x500, .i32⟩
  | 19 => ⟨S_, .i32⟩
  | 20 => ⟨S4x500, .i32⟩
  | 21 => ⟨S4x500, .i1⟩
  | 22 => ⟨S4x500, .i32⟩
  | 23 => ⟨S4x500, .i32⟩
  | 24 => ⟨S_, .i32⟩
  | 25 => ⟨S4x500, .i32⟩
  | 26 => ⟨S4x500, .i1⟩
  | 27 => ⟨S4x500, .i1⟩
  | 28 => ⟨S_, .i32⟩
  | 29 => ⟨S4x500, .i32⟩
  | 30 => ⟨S4x500, .i32⟩
  | 31 => ⟨S4x500, .i32⟩
  | 32 => ⟨S4x1000, .i32⟩
  | 33 => ⟨S_, .i32⟩
  | 34 => ⟨S4x500, .i32⟩
  | 35 => ⟨S4x500, .i1⟩
  | 36 => ⟨S_, .i32⟩
  | 37 => ⟨S4x500, .i32⟩
  | 38 => ⟨S4x500, .i32⟩
  | 39 => ⟨S4x500, .i32⟩
  | 40 => ⟨S4x500x1, .i32⟩
  | 41 => ⟨S1, .i32⟩
  | 42 => ⟨S_, .i32⟩
  | 43 => ⟨S4x500x1, .i32⟩
  | 44 => ⟨S4x500x1, .i1⟩
  | 45 => ⟨S1x1x1, .i32⟩
  | 46 => ⟨S4x500x1, .i32⟩
  | 47 => ⟨S4x500x1, .i1⟩
  | 48 => ⟨S4x500x1, .i1⟩
  | 49 => ⟨S_, .i1⟩
  | 50 => ⟨S4x500, .i1⟩
  | 51 => ⟨S4x500, .i32⟩
  | 52 => ⟨S_, .i32⟩
  | 53 => ⟨S4x500, .i32⟩
  | 54 => ⟨S4x500, .i32⟩
  | 55 => ⟨S_, .i32⟩
  | 56 => ⟨S_, .i32⟩
  | 57 => ⟨S4x500, .i32⟩
  | 58 => ⟨S4x500, .i32⟩
  | 59 => ⟨S4x500, .i32⟩
  | 60 => ⟨S_, .i32⟩
  | 61 => ⟨S4x500, .i32⟩
  | 62 => ⟨S4x500, .i1⟩
  | 63 => ⟨S4x500, .i32⟩
  | 64 => ⟨S4x500, .i32⟩
  | 65 => ⟨S_, .i32⟩
  | 66 => ⟨S4x500, .i32⟩
  | 67 => ⟨S4x500, .i1⟩
  | 68 => ⟨S4x500, .i1⟩
  | 69 => ⟨S_, .i32⟩
  | 70 => ⟨S4x500, .i32⟩
  | 71 => ⟨S4x500, .i32⟩
  | 72 => ⟨S4x500, .i32⟩
  | 73 => ⟨S4x500, .f32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S4x500, .i32⟩
  | 81 => ⟨S4x500, .i32⟩
  | 82 => ⟨S_, .i32⟩
  | 83 => ⟨S4x500, .i32⟩
  | 84 => ⟨S4x500, .i1⟩
  | 85 => ⟨S_, .i32⟩
  | 86 => ⟨S4x500, .i32⟩
  | 87 => ⟨S4x500, .i1⟩
  | 88 => ⟨S_, .i32⟩
  | 89 => ⟨S_, .i1⟩
  | 90 => ⟨S4x500, .i1⟩
  | 91 => ⟨S4x500, .i1⟩
  | 92 => ⟨S4x500, .i1⟩
  | 93 => ⟨S4x500, .i32⟩
  | 94 => ⟨S4x500, .i32⟩
  | 95 => ⟨S4x500, .i32⟩
  | 96 => ⟨S4x500, .f32⟩
  | 97 => ⟨S4x512x512x2, .f32⟩
  | 98 => ⟨S4x262144x2, .f32⟩
  | 99 => ⟨S4x500x1, .i32⟩
  | 100 => ⟨S4x500x2, .i32⟩
  | 101 => ⟨S_, .i32⟩
  | 102 => ⟨S4x500x2, .i32⟩
  | 103 => ⟨S4x500x2, .i1⟩
  | 104 => ⟨S_, .i32⟩
  | 105 => ⟨S4x500x2, .i32⟩
  | 106 => ⟨S4x500x2, .i32⟩
  | 107 => ⟨S4x500x2, .i32⟩
  | 108 => ⟨S4x500x2x1, .i32⟩
  | 109 => ⟨S1, .i32⟩
  | 110 => ⟨S_, .i32⟩
  | 111 => ⟨S4x500x2x1, .i32⟩
  | 112 => ⟨S4x500x2x1, .i1⟩
  | 113 => ⟨S1x1x1x1, .i32⟩
  | 114 => ⟨S4x500x2x1, .i32⟩
  | 115 => ⟨S4x500x2x1, .i1⟩
  | 116 => ⟨S4x500x2x1, .i1⟩
  | 117 => ⟨S_, .i1⟩
  | 118 => ⟨S4x500x2, .i1⟩
  | 119 => ⟨S4x500x2, .f32⟩
  | 120 => ⟨S_, .f32⟩
  | 121 => ⟨S4x500x2, .f32⟩
  | 122 => ⟨S4x500x2, .f32⟩
  | 123 => ⟨S4x500x1, .f32⟩
  | 124 => ⟨S4x500x1, .f32⟩
  | 125 => ⟨S4x500x1, .f32⟩
  | 126 => ⟨S4x500x1, .f32⟩
  | 127 => ⟨S4x500x1, .f32⟩
  | _ => ⟨S4x2x512x512, .f32⟩

abbrev hbmTy0_1 (i : Nat) : BufTy := match i % 128 with
  | 0 => ⟨S4x500x1, .f32⟩
  | 1 => ⟨S4x512x512x2, .f32⟩
  | 2 => ⟨S4x262144x2, .f32⟩
  | 3 => ⟨S4x500x1, .i32⟩
  | 4 => ⟨S4x500x2, .i32⟩
  | 5 => ⟨S_, .i32⟩
  | 6 => ⟨S4x500x2, .i32⟩
  | 7 => ⟨S4x500x2, .i1⟩
  | 8 => ⟨S_, .i32⟩
  | 9 => ⟨S4x500x2, .i32⟩
  | 10 => ⟨S4x500x2, .i32⟩
  | 11 => ⟨S4x500x2, .i32⟩
  | 12 => ⟨S4x500x2x1, .i32⟩
  | 13 => ⟨S1, .i32⟩
  | 14 => ⟨S_, .i32⟩
  | 15 => ⟨S4x500x2x1, .i32⟩
  | 16 => ⟨S4x500x2x1, .i1⟩
  | 17 => ⟨S1x1x1x1, .i32⟩
  | 18 => ⟨S4x500x2x1, .i32⟩
  | 19 => ⟨S4x500x2x1, .i1⟩
  | 20 => ⟨S4x500x2x1, .i1⟩
  | 21 => ⟨S_, .i1⟩
  | 22 => ⟨S4x500x2, .i1⟩
  | 23 => ⟨S4x500x2, .f32⟩
  | 24 => ⟨S_, .f32⟩
  | 25 => ⟨S4x500x2, .f32⟩
  | 26 => ⟨S4x500x2, .f32⟩
  | 27 => ⟨S4x500x1, .f32⟩
  | 28 => ⟨S4x500x1, .f32⟩
  | 29 => ⟨S4x500x1, .f32⟩
  | 30 => ⟨S4x512x512x1, .f32⟩
  | 31 => ⟨S4x262144x1, .f32⟩
  | 32 => ⟨S4x500x1, .i32⟩
  | 33 => ⟨S_, .i32⟩
  | 34 => ⟨S4x500x1, .i32⟩
  | 35 => ⟨S4x500x1, .i1⟩
  | 36 => ⟨S_, .i32⟩
  | 37 => ⟨S4x500x1, .i32⟩
  | 38 => ⟨S4x500x1, .i32⟩
  | 39 => ⟨S4x500x1, .i32⟩
  | 40 => ⟨S1, .i32⟩
  | 41 => ⟨S_, .i32⟩
  | 42 => ⟨S4x500x1, .i32⟩
  | 43 => ⟨S4x500x1, .i1⟩
  | 44 => ⟨S1x1x1, .i32⟩
  | 45 => ⟨S4x500x1, .i32⟩
  | 46 => ⟨S4x500x1, .i1⟩
  | 47 => ⟨S4x500x1, .i1⟩
  | 48 => ⟨S_, .i1⟩
  | 49 => ⟨S4x500, .i1⟩
  | 50 => ⟨S4x500x1, .f32⟩
  | 51 => ⟨S4x500x1, .i1⟩
  | 52 => ⟨S_, .f32⟩
  | 53 => ⟨S4x500x1, .f32⟩
  | 54 => ⟨S4x500x1, .f32⟩
  | 55 => ⟨S4x512x512x3, .f32⟩
  | 56 => ⟨S4x262144x3, .f32⟩
  | 57 => ⟨S4x500x1, .i32⟩
  | 58 => ⟨S4x500x3, .i32⟩
  | 59 => ⟨S_, .i32⟩
  | 60 => ⟨S4x500x3, .i32⟩
  | 61 => ⟨S4x500x3, .i1⟩
  | 62 => ⟨S_, .i32⟩
  | 63 => ⟨S4x500x3, .i32⟩
  | 64 => ⟨S4x500x3, .i32⟩
  | 65 => ⟨S4x500x3, .i32⟩
  | 66 => ⟨S4x500x3x1, .i32⟩
  | 67 => ⟨S1, .i32⟩
  | 68 => ⟨S_, .i32⟩
  | 69 => ⟨S4x500x3x1, .i32⟩
  | 70 => ⟨S4x500x3x1, .i1⟩
  | 71 => ⟨S1x1x1x1, .i32⟩
  | 72 => ⟨S4x500x3x1, .i32⟩
  | 73 => ⟨S4x500x3x1, .i1⟩
  | 74 => ⟨S4x500x3x1, .i1⟩
  | 75 => ⟨S_, .i1⟩
  | 76 => ⟨S4x500x3, .i1⟩
  | 77 => ⟨S4x500x3, .f32⟩
  | 78 => ⟨S_, .f32⟩
  | 79 => ⟨S4x500x3, .f32⟩
  | 80 => ⟨S4x500x3, .f32⟩
  | 81 => ⟨S4x500x3, .f32⟩
  | 82 => ⟨S4x512x512x2, .f32⟩
  | 83 => ⟨S4x262144x2, .f32⟩
  | 84 => ⟨S4x500x1, .i32⟩
  | 85 => ⟨S4x500x2, .i32⟩
  | 86 => ⟨S_, .i32⟩
  | 87 => ⟨S4x500x2, .i32⟩
  | 88 => ⟨S4x500x2, .i1⟩
  | 89 => ⟨S_, .i32⟩
  | 90 => ⟨S4x500x2, .i32⟩
  | 91 => ⟨S4x500x2, .i32⟩
  | 92 => ⟨S4x500x2, .i32⟩
  | 93 => ⟨S4x500x2x1, .i32⟩
  | 94 => ⟨S1, .i32⟩
  | 95 => ⟨S_, .i32⟩
  | 96 => ⟨S4x500x2x1, .i32⟩
  | 97 => ⟨S4x500x2x1, .i1⟩
  | 98 => ⟨S1x1x1x1, .i32⟩
  | 99 => ⟨S4x500x2x1, .i32⟩
  | 100 => ⟨S4x500x2x1, .i1⟩
  | 101 => ⟨S4x500x2x1, .i1⟩
  | 102 => ⟨S_, .i1⟩
  | 103 => ⟨S4x500x2, .i1⟩
  | 104 => ⟨S4x500x2, .f32⟩
  | 105 => ⟨S_, .f32⟩
  | 106 => ⟨S4x500x2, .f32⟩
  | 107 => ⟨S4x500x2, .f32⟩
  | 108 => ⟨S_, .f32⟩
  | 109 => ⟨S4x500x1, .f32⟩
  | 110 => ⟨S4x500x1, .f32⟩
  | 111 => ⟨S_, .f32⟩
  | 112 => ⟨S4x500x1, .f32⟩
  | 113 => ⟨S4x500x1, .f32⟩
  | 114 => ⟨S_, .f32⟩
  | 115 => ⟨S4x500x1, .f32⟩
  | 116 => ⟨S4x500x1, .f32⟩
  | 117 => ⟨S_, .f32⟩
  | 118 => ⟨S4x500x1, .f32⟩
  | 119 => ⟨S4x500x1, .f32⟩
  | 120 => ⟨S4x500x9, .f32⟩
  | 121 => ⟨S4x500x3, .f32⟩
  | 122 => ⟨S_, .f32⟩
  | 123 => ⟨S4x500x3, .f32⟩
  | 124 => ⟨S4x500x3, .i1⟩
  | 125 => ⟨S_, .i1⟩
  | 126 => ⟨S4x500, .i1⟩
  | 127 => ⟨S4x500x3, .f32⟩
  | _ => ⟨S4x2x512x512, .f32⟩

abbrev hbmTy0_2 (i : Nat) : BufTy := match i % 128 with
  | 0 => ⟨S_, .f32⟩
  | 1 => ⟨S4x500x3, .f32⟩
  | 2 => ⟨S4x500x3, .i1⟩
  | 3 => ⟨S_, .i1⟩
  | 4 => ⟨S4x500, .i1⟩
  | 5 => ⟨S4x500, .i1⟩
  | 6 => ⟨S_, .f32⟩
  | 7 => ⟨S_, .f32⟩
  | 8 => ⟨S4x500, .f32⟩
  | 9 => ⟨S4x500, .f32⟩
  | _ => ⟨S4x2x512x512, .f32⟩

abbrev hbmTy (i : Nat) : BufTy := match i / 128 with
  | 0 => hbmTy0_0 i
  | 1 => hbmTy0_1 i
  | 2 => hbmTy0_2 i
  | _ => ⟨S4x2x512x512, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | _, _ => ⟨S4x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_v3 : Ref sig .tc := ⟨.hbm, 11, rfl⟩
abbrev main_values_0 : Ref sig .tc := ⟨.hbm, 12, rfl⟩
abbrev main_indices_1 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_c_4 : Ref sig .tc := ⟨.hbm, 52, rfl⟩
abbrev main_call1_v14 : Ref sig .tc := ⟨.hbm, 53, rfl⟩
abbrev main_v6 : Ref sig .tc := ⟨.hbm, 54, rfl⟩
abbrev main_c_2 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v7 : Ref sig .tc := ⟨.hbm, 72, rfl⟩
abbrev main_v8 : Ref sig .tc := ⟨.hbm, 73, rfl⟩
abbrev main_c_3 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v9 : Ref sig .tc := ⟨.hbm, 95, rfl⟩
abbrev main_v10 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_cst : Ref sig .tc := ⟨.hbm, 120, rfl⟩
abbrev main_call4_v14 : Ref sig .tc := ⟨.hbm, 121, rfl⟩
abbrev main_v15 : Ref sig .tc := ⟨.hbm, 122, rfl⟩
abbrev main_v16 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_call5_c : Ref sig .tc := ⟨.hbm, 133, rfl⟩
abbrev main_call5_v0 : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_c_1 : Ref sig .tc := ⟨.hbm, 141, rfl⟩
abbrev main_call5_c_2 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_c_3 : Ref sig .tc := ⟨.hbm, 149, rfl⟩
abbrev main_call5_v12 : Ref sig .tc := ⟨.hbm, 150, rfl⟩
abbrev main_call5_v13 : Ref sig .tc := ⟨.hbm, 151, rfl⟩
abbrev main_call5_cst : Ref sig .tc := ⟨.hbm, 152, rfl⟩
abbrev main_call5_v14 : Ref sig .tc := ⟨.hbm, 153, rfl⟩
abbrev main_v26 : Ref sig .tc := ⟨.hbm, 154, rfl⟩
abbrev main_v27 : Ref sig .tc := ⟨.hbm, 155, rfl⟩
abbrev main_v28 : Ref sig .tc := ⟨.hbm, 156, rfl⟩
abbrev main_v29 : Ref sig .tc := ⟨.hbm, 157, rfl⟩
abbrev main_v30 : Ref sig .tc := ⟨.hbm, 158, rfl⟩
abbrev main_v31 : Ref sig .tc := ⟨.hbm, 159, rfl⟩
abbrev main_v32 : Ref sig .tc := ⟨.hbm, 160, rfl⟩
abbrev main_call6_c : Ref sig .tc := ⟨.hbm, 161, rfl⟩
abbrev main_call6_v0 : Ref sig .tc := ⟨.hbm, 162, rfl⟩
abbrev main_call6_v1 : Ref sig .tc := ⟨.hbm, 163, rfl⟩
abbrev main_call6_c_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_c_1 : Ref sig .tc := ⟨.hbm, 168, rfl⟩
abbrev main_call6_c_2 : Ref sig .tc := ⟨.hbm, 169, rfl⟩
abbrev main_call6_v5 : Ref sig .tc := ⟨.hbm, 170, rfl⟩
abbrev main_call6_v6 : Ref sig .tc := ⟨.hbm, 171, rfl⟩
abbrev main_call6_v7 : Ref sig .tc := ⟨.hbm, 172, rfl⟩
abbrev main_call6_v8 : Ref sig .tc := ⟨.hbm, 173, rfl⟩
abbrev main_call6_v9 : Ref sig .tc := ⟨.hbm, 174, rfl⟩
abbrev main_call6_v10 : Ref sig .tc := ⟨.hbm, 175, rfl⟩
abbrev main_call6_c_3 : Ref sig .tc := ⟨.hbm, 176, rfl⟩
abbrev main_call6_v11 : Ref sig .tc := ⟨.hbm, 177, rfl⟩
abbrev main_call6_v12 : Ref sig .tc := ⟨.hbm, 178, rfl⟩
abbrev main_call6_v13 : Ref sig .tc := ⟨.hbm, 179, rfl⟩
abbrev main_call6_cst : Ref sig .tc := ⟨.hbm, 180, rfl⟩
abbrev main_call6_v14 : Ref sig .tc := ⟨.hbm, 181, rfl⟩
abbrev main_v33 : Ref sig .tc := ⟨.hbm, 182, rfl⟩
abbrev main_v34 : Ref sig .tc := ⟨.hbm, 183, rfl⟩
abbrev main_v35 : Ref sig .tc := ⟨.hbm, 184, rfl⟩
abbrev main_v36 : Ref sig .tc := ⟨.hbm, 185, rfl⟩
abbrev main_v37 : Ref sig .tc := ⟨.hbm, 186, rfl⟩
abbrev main_call7_c : Ref sig .tc := ⟨.hbm, 187, rfl⟩
abbrev main_call7_v0 : Ref sig .tc := ⟨.hbm, 188, rfl⟩
abbrev main_call7_v1 : Ref sig .tc := ⟨.hbm, 189, rfl⟩
abbrev main_call7_c_0 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_v5 : Ref sig .tc := ⟨.hbm, 194, rfl⟩
abbrev main_call7_c_1 : Ref sig .tc := ⟨.hbm, 195, rfl⟩
abbrev main_call7_c_2 : Ref sig .tc := ⟨.hbm, 196, rfl⟩
abbrev main_call7_v6 : Ref sig .tc := ⟨.hbm, 197, rfl⟩
abbrev main_call7_v7 : Ref sig .tc := ⟨.hbm, 198, rfl⟩
abbrev main_call7_v8 : Ref sig .tc := ⟨.hbm, 199, rfl⟩
abbrev main_call7_v9 : Ref sig .tc := ⟨.hbm, 200, rfl⟩
abbrev main_call7_v10 : Ref sig .tc := ⟨.hbm, 201, rfl⟩
abbrev main_call7_v11 : Ref sig .tc := ⟨.hbm, 202, rfl⟩
abbrev main_call7_c_3 : Ref sig .tc := ⟨.hbm, 203, rfl⟩
abbrev main_call7_v12 : Ref sig .tc := ⟨.hbm, 204, rfl⟩
abbrev main_call7_v13 : Ref sig .tc := ⟨.hbm, 205, rfl⟩
abbrev main_call7_cst : Ref sig .tc := ⟨.hbm, 206, rfl⟩
abbrev main_call7_v14 : Ref sig .tc := ⟨.hbm, 207, rfl⟩
abbrev main_v38 : Ref sig .tc := ⟨.hbm, 208, rfl⟩
abbrev main_v39 : Ref sig .tc := ⟨.hbm, 209, rfl⟩
abbrev main_v40 : Ref sig .tc := ⟨.hbm, 210, rfl⟩
abbrev main_v41 : Ref sig .tc := ⟨.hbm, 211, rfl⟩
abbrev main_v42 : Ref sig .tc := ⟨.hbm, 212, rfl⟩
abbrev main_v43 : Ref sig .tc := ⟨.hbm, 213, rfl⟩
abbrev main_call8_c : Ref sig .tc := ⟨.hbm, 214, rfl⟩
abbrev main_call8_v0 : Ref sig .tc := ⟨.hbm, 215, rfl⟩
abbrev main_call8_v1 : Ref sig .tc := ⟨.hbm, 216, rfl⟩
abbrev main_call8_c_0 : Ref sig .tc := ⟨.hbm, 217, rfl⟩
abbrev main_call8_v2 : Ref sig .tc := ⟨.hbm, 218, rfl⟩
abbrev main_call8_v3 : Ref sig .tc := ⟨.hbm, 219, rfl⟩
abbrev main_call8_v4 : Ref sig .tc := ⟨.hbm, 220, rfl⟩
abbrev main_call8_v5 : Ref sig .tc := ⟨.hbm, 221, rfl⟩
abbrev main_call8_c_1 : Ref sig .tc := ⟨.hbm, 222, rfl⟩
abbrev main_call8_c_2 : Ref sig .tc := ⟨.hbm, 223, rfl⟩
abbrev main_call8_v6 : Ref sig .tc := ⟨.hbm, 224, rfl⟩
abbrev main_call8_v7 : Ref sig .tc := ⟨.hbm, 225, rfl⟩
abbrev main_call8_v8 : Ref sig .tc := ⟨.hbm, 226, rfl⟩
abbrev main_call8_v9 : Ref sig .tc := ⟨.hbm, 227, rfl⟩
abbrev main_call8_v10 : Ref sig .tc := ⟨.hbm, 228, rfl⟩
abbrev main_call8_v11 : Ref sig .tc := ⟨.hbm, 229, rfl⟩
abbrev main_call8_c_3 : Ref sig .tc := ⟨.hbm, 230, rfl⟩
abbrev main_call8_v12 : Ref sig .tc := ⟨.hbm, 231, rfl⟩
abbrev main_call8_v13 : Ref sig .tc := ⟨.hbm, 232, rfl⟩
abbrev main_call8_cst : Ref sig .tc := ⟨.hbm, 233, rfl⟩
abbrev main_call8_v14 : Ref sig .tc := ⟨.hbm, 234, rfl⟩
abbrev main_v44 : Ref sig .tc := ⟨.hbm, 235, rfl⟩
abbrev main_cst : Ref sig .tc := ⟨.hbm, 236, rfl⟩
abbrev main_v45 : Ref sig .tc := ⟨.hbm, 237, rfl⟩
abbrev main_v46 : Ref sig .tc := ⟨.hbm, 238, rfl⟩
abbrev main_cst_4 : Ref sig .tc := ⟨.hbm, 239, rfl⟩
abbrev main_v47 : Ref sig .tc := ⟨.hbm, 240, rfl⟩
abbrev main_v48 : Ref sig .tc := ⟨.hbm, 241, rfl⟩
abbrev main_cst_5 : Ref sig .tc := ⟨.hbm, 242, rfl⟩
abbrev main_v49 : Ref sig .tc := ⟨.hbm, 243, rfl⟩
abbrev main_v50 : Ref sig .tc := ⟨.hbm, 244, rfl⟩
abbrev main_cst_6 : Ref sig .tc := ⟨.hbm, 245, rfl⟩
abbrev main_v51 : Ref sig .tc := ⟨.hbm, 246, rfl⟩
abbrev main_v52 : Ref sig .tc := ⟨.hbm, 247, rfl⟩
abbrev main_v53 : Ref sig .tc := ⟨.hbm, 248, rfl⟩
abbrev main_v54 : Ref sig .tc := ⟨.hbm, 249, rfl⟩
abbrev main_cst_7 : Ref sig .tc := ⟨.hbm, 250, rfl⟩
abbrev main_v55 : Ref sig .tc := ⟨.hbm, 251, rfl⟩
abbrev main_v56 : Ref sig .tc := ⟨.hbm, 252, rfl⟩
abbrev main_c_8 : Ref sig .tc := ⟨.hbm, 253, rfl⟩
abbrev main_v57 : Ref sig .tc := ⟨.hbm, 254, rfl⟩
abbrev main_v58 : Ref sig .tc := ⟨.hbm, 255, rfl⟩
abbrev main_cst_9 : Ref sig .tc := ⟨.hbm, 256, rfl⟩
abbrev main_v59 : Ref sig .tc := ⟨.hbm, 257, rfl⟩
abbrev main_v60 : Ref sig .tc := ⟨.hbm, 258, rfl⟩
abbrev main_c_10 : Ref sig .tc := ⟨.hbm, 259, rfl⟩
abbrev main_v61 : Ref sig .tc := ⟨.hbm, 260, rfl⟩
abbrev main_v62 : Ref sig .tc := ⟨.hbm, 261, rfl⟩
abbrev main_cst_11 : Ref sig .tc := ⟨.hbm, 262, rfl⟩
abbrev main_call9_v0 : Ref sig .tc := ⟨.hbm, 263, rfl⟩
abbrev main_call9_v1 : Ref sig .tc := ⟨.hbm, 264, rfl⟩
abbrev main_v63 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x2x512x512 : Shape := ⟨4, ![4, 2, 512, 512]⟩
abbrev S4x1x512x512 : Shape := ⟨4, ![4, 1, 512, 512]⟩
abbrev S4x3x512x512 : Shape := ⟨4, ![4, 3, 512, 512]⟩
abbrev S3 : Shape := ⟨1, ![3]⟩
abbrev S_ : Shape := ⟨0, ![]⟩
abbrev S4x2x262144 : Shape := ⟨3, ![4, 2, 262144]⟩
abbrev S4x2x500 : Shape := ⟨3, ![4, 2, 500]⟩
abbrev S4x1000 : Shape := ⟨2, ![4, 1000]⟩
abbrev S4x500 : Shape := ⟨2, ![4, 500]⟩
abbrev S4x1000x1 : Shape := ⟨3, ![4, 1000, 1]⟩
abbrev S4x500x1 : Shape := ⟨3, ![4, 500, 1]⟩
abbrev S1 : Shape := ⟨1, ![1]⟩
abbrev S1x1x1 : Shape := ⟨3, ![1, 1, 1]⟩
abbrev S4x512x512x2 : Shape := ⟨4, ![4, 512, 512, 2]⟩
abbrev S4x262144x2 : Shape := ⟨3, ![4, 262144, 2]⟩
abbrev S4x500x2 : Shape := ⟨3, ![4, 500, 2]⟩
abbrev S4x500x2x1 : Shape := ⟨4, ![4, 500, 2, 1]⟩
abbrev S1x1x1x1 : Shape := ⟨4, ![1, 1, 1, 1]⟩
abbrev S4x512x512x1 : Shape := ⟨4, ![4, 512, 512, 1]⟩
abbrev S4x262144x1 : Shape := ⟨3, ![4, 262144, 1]⟩
abbrev S4x512x512x3 : Shape := ⟨4, ![4, 512, 512, 3]⟩
abbrev S4x262144x3 : Shape := ⟨3, ![4, 262144, 3]⟩
abbrev S4x500x3 : Shape := ⟨3, ![4, 500, 3]⟩
abbrev S4x500x3x1 : Shape := ⟨4, ![4, 500, 3, 1]⟩
abbrev S4x500x9 : Shape := ⟨3, ![4, 500, 9]⟩
abbrev S1x1x3 : Shape := ⟨3, ![1, 1, 3]⟩

abbrev nBuf : Space → Nat
  | .hbm => 384
  | .vmem => 0
  | .smem => 0
  | _ => 0

abbrev hbmTy0_0 (i : Nat) : BufTy := match i % 128 with
  | 0 => ⟨S4x2x512x512, .f32⟩
  | 1 => ⟨S4x2x512x512, .f32⟩
  | 2 => ⟨S4x1x512x512, .f32⟩
  | 3 => ⟨S4x3x512x512, .f32⟩
  | 4 => ⟨S4x2x512x512, .f32⟩
  | 5 => ⟨S4x2x512x512, .f32⟩
  | 6 => ⟨S3, .f32⟩
  | 7 => ⟨S3, .f32⟩
  | 8 => ⟨S4x2x512x512, .f32⟩
  | 9 => ⟨S4x2x512x512, .f32⟩
  | 10 => ⟨S_, .f32⟩
  | 11 => ⟨S4x2x512x512, .f32⟩
  | 12 => ⟨S4x2x512x512, .f32⟩
  | 13 => ⟨S_, .f32⟩
  | 14 => ⟨S4x2x512x512, .f32⟩
  | 15 => ⟨S4x2x512x512, .f32⟩
  | 16 => ⟨S_, .f32⟩
  | 17 => ⟨S_, .f32⟩
  | 18 => ⟨S4x2x512x512, .f32⟩
  | 19 => ⟨S4x2x512x512, .i1⟩
  | 20 => ⟨S4x2x512x512, .f32⟩
  | 21 => ⟨S4x2x512x512, .f32⟩
  | 22 => ⟨S4x3x512x512, .f32⟩
  | 23 => ⟨S4x1x512x512, .f32⟩
  | 24 => ⟨S4x1x512x512, .f32⟩
  | 25 => ⟨S4x2x262144, .f32⟩
  | 26 => ⟨S4x2x500, .f32⟩
  | 27 => ⟨S4x2x500, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S4x2x500, .i32⟩
  | 35 => ⟨S4x2x500, .i32⟩
  | 36 => ⟨S_, .i32⟩
  | 37 => ⟨S4x2x500, .i32⟩
  | 38 => ⟨S4x2x500, .i1⟩
  | 39 => ⟨S_, .i32⟩
  | 40 => ⟨S4x2x500, .i32⟩
  | 41 => ⟨S4x2x500, .i1⟩
  | 42 => ⟨S_, .i32⟩
  | 43 => ⟨S_, .i1⟩
  | 44 => ⟨S4x2x500, .i1⟩
  | 45 => ⟨S4x2x500, .i1⟩
  | 46 => ⟨S4x2x500, .i1⟩
  | 47 => ⟨S4x2x500, .i32⟩
  | 48 => ⟨S4x2x500, .i32⟩
  | 49 => ⟨S4x2x500, .i32⟩
  | 50 => ⟨S_, .i32⟩
  | 51 => ⟨S_, .i32⟩
  | 52 => ⟨S4x2x500, .i32⟩
  | 53 => ⟨S4x2x500, .i32⟩
  | 54 => ⟨S4x2x500, .i32⟩
  | 55 => ⟨S_, .i32⟩
  | 56 => ⟨S4x2x500, .i32⟩
  | 57 => ⟨S4x2x500, .i1⟩
  | 58 => ⟨S4x2x500, .i32⟩
  | 59 => ⟨S4x2x500, .i32⟩
  | 60 => ⟨S_, .i32⟩
  | 61 => ⟨S4x2x500, .i32⟩
  | 62 => ⟨S4x2x500, .i1⟩
  | 63 => ⟨S4x2x500, .i1⟩
  | 64 => ⟨S_, .i32⟩
  | 65 => ⟨S4x2x500, .i32⟩
  | 66 => ⟨S4x2x500, .i32⟩
  | 67 => ⟨S4x2x500, .i32⟩
  | 68 => ⟨S4x2x500, .f32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S4x2x500, .i32⟩
  | 76 => ⟨S4x2x500, .i32⟩
  | 77 => ⟨S_, .i32⟩
  | 78 => ⟨S4x2x500, .i32⟩
  | 79 => ⟨S4x2x500, .i1⟩
  | 80 => ⟨S_, .i32⟩
  | 81 => ⟨S4x2x500, .i32⟩
  | 82 => ⟨S4x2x500, .i1⟩
  | 83 => ⟨S_, .i32⟩
  | 84 => ⟨S_, .i1⟩
  | 85 => ⟨S4x2x500, .i1⟩
  | 86 => ⟨S4x2x500, .i1⟩
  | 87 => ⟨S4x2x500, .i1⟩
  | 88 => ⟨S4x2x500, .i32⟩
  | 89 => ⟨S4x2x500, .i32⟩
  | 90 => ⟨S4x2x500, .i32⟩
  | 91 => ⟨S4x2x500, .f32⟩
  | 92 => ⟨S4x1000, .f32⟩
  | 93 => ⟨S4x500, .f32⟩
  | 94 => ⟨S4x500, .i32⟩
  | 95 => ⟨S_, .i32⟩
  | 96 => ⟨S_, .i32⟩
  | 97 => ⟨S4x500, .i32⟩
  | 98 => ⟨S4x500, .i32⟩
  | 99 => ⟨S4x500, .i32⟩
  | 100 => ⟨S_, .i32⟩
  | 101 => ⟨S4x500, .i32⟩
  | 102 => ⟨S4x500, .i1⟩
  | 103 => ⟨S4x500, .i32⟩
  | 104 => ⟨S4x500, .i32⟩
  | 105 => ⟨S_, .i32⟩
  | 106 => ⟨S4x500, .i32⟩
  | 107 => ⟨S4x500, .i1⟩
  | 108 => ⟨S4x500, .i1⟩
  | 109 => ⟨S_, .i32⟩
  | 110 => ⟨S4x500, .i32⟩
  | 111 => ⟨S4x500, .i32⟩
  | 112 => ⟨S4x500, .i32⟩
  | 113 => ⟨S4x1000x1, .i32⟩
  | 114 => ⟨S4x500x1, .i32⟩
  | 115 => ⟨S_, .i32⟩
  | 116 => ⟨S4x500x1, .i32⟩
  | 117 => ⟨S4x500x1, .i1⟩
  | 118 => ⟨S_, .i32⟩
  | 119 => ⟨S4x500x1, .i32⟩
  | 120 => ⟨S4x500x1, .i32⟩
  | 121 => ⟨S4x500x1, .i32⟩
  | 122 => ⟨S1, .i32⟩
  | 123 => ⟨S_, .i32⟩
  | 124 => ⟨S4x500x1, .i32⟩
  | 125 => ⟨S4x500x1, .i1⟩
  | 126 => ⟨S1x1x1, .i32⟩
  | 127 => ⟨S4x500x1, .i32⟩
  | _ => ⟨S4x2x512x512, .f32⟩

abbrev hbmTy0_1 (i : Nat) : BufTy := match i % 128 with
  | 0 => ⟨S4x500x1, .i1⟩
  | 1 => ⟨S4x500x1, .i1⟩
  | 2 => ⟨S_, .i1⟩
  | 3 => ⟨S4x500, .i1⟩
  | 4 => ⟨S4x500x1, .i32⟩
  | 5 => ⟨S4x500x1, .i1⟩
  | 6 => ⟨S_, .i32⟩
  | 7 => ⟨S4x500x1, .i32⟩
  | 8 => ⟨S4x500x1, .i32⟩
  | 9 => ⟨S4x500, .i32⟩
  | 10 => ⟨S4x1000x1, .f32⟩
  | 11 => ⟨S4x500x1, .i32⟩
  | 12 => ⟨S_, .i32⟩
  | 13 => ⟨S4x500x1, .i32⟩
  | 14 => ⟨S4x500x1, .i1⟩
  | 15 => ⟨S_, .i32⟩
  | 16 => ⟨S4x500x1, .i32⟩
  | 17 => ⟨S4x500x1, .i32⟩
  | 18 => ⟨S4x500x1, .i32⟩
  | 19 => ⟨S1, .i32⟩
  | 20 => ⟨S_, .i32⟩
  | 21 => ⟨S4x500x1, .i32⟩
  | 22 => ⟨S4x500x1, .i1⟩
  | 23 => ⟨S1x1x1, .i32⟩
  | 24 => ⟨S4x500x1, .i32⟩
  | 25 => ⟨S4x500x1, .i1⟩
  | 26 => ⟨S4x500x1, .i1⟩
  | 27 => ⟨S_, .i1⟩
  | 28 => ⟨S4x500, .i1⟩
  | 29 => ⟨S4x500x1, .f32⟩
  | 30 => ⟨S4x500x1, .i1⟩
  | 31 => ⟨S_, .f32⟩
  | 32 => ⟨S4x500x1, .f32⟩
  | 33 => ⟨S4x500x1, .f32⟩
  | 34 => ⟨S4x500, .f32⟩
  | 35 => ⟨S4x1000x1, .f32⟩
  | 36 => ⟨S4x500x1, .i32⟩
  | 37 => ⟨S_, .i32⟩
  | 38 => ⟨S4x500x1, .i32⟩
  | 39 => ⟨S4x500x1, .i1⟩
  | 40 => ⟨S_, .i32⟩
  | 41 => ⟨S4x500x1, .i32⟩
  | 42 => ⟨S4x500x1, .i32⟩
  | 43 => ⟨S4x500x1, .i32⟩
  | 44 => ⟨S1, .i32⟩
  | 45 => ⟨S_, .i32⟩
  | 46 => ⟨S4x500x1, .i32⟩
  | 47 => ⟨S4x500x1, .i1⟩
  | 48 => ⟨S1x1x1, .i32⟩
  | 49 => ⟨S4x500x1, .i32⟩
  | 50 => ⟨S4x500x1, .i1⟩
  | 51 => ⟨S4x500x1, .i1⟩
  | 52 => ⟨S_, .i1⟩
  | 53 => ⟨S4x500, .i1⟩
  | 54 => ⟨S4x500x1, .f32⟩
  | 55 => ⟨S4x500x1, .i1⟩
  | 56 => ⟨S_, .f32⟩
  | 57 => ⟨S4x500x1, .f32⟩
  | 58 => ⟨S4x500x1, .f32⟩
  | 59 => ⟨S4x500, .f32⟩
  | 60 => ⟨S4x512x512x2, .f32⟩
  | 61 => ⟨S4x262144x2, .f32⟩
  | 62 => ⟨S4x500x1, .i32⟩
  | 63 => ⟨S4x500x2, .i32⟩
  | 64 => ⟨S_, .i32⟩
  | 65 => ⟨S4x500x2, .i32⟩
  | 66 => ⟨S4x500x2, .i1⟩
  | 67 => ⟨S_, .i32⟩
  | 68 => ⟨S4x500x2, .i32⟩
  | 69 => ⟨S4x500x2, .i32⟩
  | 70 => ⟨S4x500x2, .i32⟩
  | 71 => ⟨S4x500x2x1, .i32⟩
  | 72 => ⟨S1, .i32⟩
  | 73 => ⟨S_, .i32⟩
  | 74 => ⟨S4x500x2x1, .i32⟩
  | 75 => ⟨S4x500x2x1, .i1⟩
  | 76 => ⟨S1x1x1x1, .i32⟩
  | 77 => ⟨S4x500x2x1, .i32⟩
  | 78 => ⟨S4x500x2x1, .i1⟩
  | 79 => ⟨S4x500x2x1, .i1⟩
  | 80 => ⟨S_, .i1⟩
  | 81 => ⟨S4x500x2, .i1⟩
  | 82 => ⟨S4x500x2, .f32⟩
  | 83 => ⟨S_, .f32⟩
  | 84 => ⟨S4x500x2, .f32⟩
  | 85 => ⟨S4x500x2, .f32⟩
  | 86 => ⟨S4x500x1, .f32⟩
  | 87 => ⟨S4x500x1, .f32⟩
  | 88 => ⟨S4x500x1, .f32⟩
  | 89 => ⟨S4x500x1, .f32⟩
  | 90 => ⟨S4x500x1, .f32⟩
  | 91 => ⟨S4x500x1, .f32⟩
  | 92 => ⟨S4x512x512x1, .f32⟩
  | 93 => ⟨S4x262144x1, .f32⟩
  | 94 => ⟨S4x500x1, .i32⟩
  | 95 => ⟨S_, .i32⟩
  | 96 => ⟨S4x500x1, .i32⟩
  | 97 => ⟨S4x500x1, .i1⟩
  | 98 => ⟨S_, .i32⟩
  | 99 => ⟨S4x500x1, .i32⟩
  | 100 => ⟨S4x500x1, .i32⟩
  | 101 => ⟨S4x500x1, .i32⟩
  | 102 => ⟨S1, .i32⟩
  | 103 => ⟨S_, .i32⟩
  | 104 => ⟨S4x500x1, .i32⟩
  | 105 => ⟨S4x500x1, .i1⟩
  | 106 => ⟨S1x1x1, .i32⟩
  | 107 => ⟨S4x500x1, .i32⟩
  | 108 => ⟨S4x500x1, .i1⟩
  | 109 => ⟨S4x500x1, .i1⟩
  | 110 => ⟨S_, .i1⟩
  | 111 => ⟨S4x500, .i1⟩
  | 112 => ⟨S4x500x1, .f32⟩
  | 113 => ⟨S4x500x1, .i1⟩
  | 114 => ⟨S_, .f32⟩
  | 115 => ⟨S4x500x1, .f32⟩
  | 116 => ⟨S4x500x1, .f32⟩
  | 117 => ⟨S4x512x512x1, .f32⟩
  | 118 => ⟨S4x262144x1, .f32⟩
  | 119 => ⟨S4x500x1, .i32⟩
  | 120 => ⟨S_, .i32⟩
  | 121 => ⟨S4x500x1, .i32⟩
  | 122 => ⟨S4x500x1, .i1⟩
  | 123 => ⟨S_, .i32⟩
  | 124 => ⟨S4x500x1, .i32⟩
  | 125 => ⟨S4x500x1, .i32⟩
  | 126 => ⟨S4x500x1, .i32⟩
  | 127 => ⟨S1, .i32⟩
  | _ => ⟨S4x2x512x512, .f32⟩

abbrev hbmTy0_2 (i : Nat) : BufTy := match i % 128 with
  | 0 => ⟨S_, .i32⟩
  | 1 => ⟨S4x500x1, .i32⟩
  | 2 => ⟨S4x500x1, .i1⟩
  | 3 => ⟨S1x1x1, .i32⟩
  | 4 => ⟨S4x500x1, .i32⟩
  | 5 => ⟨S4x500x1, .i1⟩
  | 6 => ⟨S4x500x1, .i1⟩
  | 7 => ⟨S_, .i1⟩
  | 8 => ⟨S4x500, .i1⟩
  | 9 => ⟨S4x500x1, .f32⟩
  | 10 => ⟨S4x500x1, .i1⟩
  | 11 => ⟨S_, .f32⟩
  | 12 => ⟨S4x500x1, .f32⟩
  | 13 => ⟨S4x500x1, .f32⟩
  | 14 => ⟨S4x500x1, .f32⟩
  | 15 => ⟨S4x512x512x1, .f32⟩
  | 16 => ⟨S4x262144x1, .f32⟩
  | 17 => ⟨S4x500x1, .i32⟩
  | 18 => ⟨S_, .i32⟩
  | 19 => ⟨S4x500x1, .i32⟩
  | 20 => ⟨S4x500x1, .i1⟩
  | 21 => ⟨S_, .i32⟩
  | 22 => ⟨S4x500x1, .i32⟩
  | 23 => ⟨S4x500x1, .i32⟩
  | 24 => ⟨S4x500x1, .i32⟩
  | 25 => ⟨S1, .i32⟩
  | 26 => ⟨S_, .i32⟩
  | 27 => ⟨S4x500x1, .i32⟩
  | 28 => ⟨S4x500x1, .i1⟩
  | 29 => ⟨S1x1x1, .i32⟩
  | 30 => ⟨S4x500x1, .i32⟩
  | 31 => ⟨S4x500x1, .i1⟩
  | 32 => ⟨S4x500x1, .i1⟩
  | 33 => ⟨S_, .i1⟩
  | 34 => ⟨S4x500, .i1⟩
  | 35 => ⟨S4x500x1, .f32⟩
  | 36 => ⟨S4x500x1, .i1⟩
  | 37 => ⟨S_, .f32⟩
  | 38 => ⟨S4x500x1, .f32⟩
  | 39 => ⟨S4x500x1, .f32⟩
  | 40 => ⟨S4x512x512x3, .f32⟩
  | 41 => ⟨S4x262144x3, .f32⟩
  | 42 => ⟨S4x500x1, .i32⟩
  | 43 => ⟨S4x500x3, .i32⟩
  | 44 => ⟨S_, .i32⟩
  | 45 => ⟨S4x500x3, .i32⟩
  | 46 => ⟨S4x500x3, .i1⟩
  | 47 => ⟨S_, .i32⟩
  | 48 => ⟨S4x500x3, .i32⟩
  | 49 => ⟨S4x500x3, .i32⟩
  | 50 => ⟨S4x500x3, .i32⟩
  | 51 => ⟨S4x500x3x1, .i32⟩
  | 52 => ⟨S1, .i32⟩
  | 53 => ⟨S_, .i32⟩
  | 54 => ⟨S4x500x3x1, .i32⟩
  | 55 => ⟨S4x500x3x1, .i1⟩
  | 56 => ⟨S1x1x1x1, .i32⟩
  | 57 => ⟨S4x500x3x1, .i32⟩
  | 58 => ⟨S4x500x3x1, .i1⟩
  | 59 => ⟨S4x500x3x1, .i1⟩
  | 60 => ⟨S_, .i1⟩
  | 61 => ⟨S4x500x3, .i1⟩
  | 62 => ⟨S4x500x3, .f32⟩
  | 63 => ⟨S_, .f32⟩
  | 64 => ⟨S4x500x3, .f32⟩
  | 65 => ⟨S4x500x3, .f32⟩
  | 66 => ⟨S4x512x512x2, .f32⟩
  | 67 => ⟨S4x262144x2, .f32⟩
  | 68 => ⟨S4x500x1, .i32⟩
  | 69 => ⟨S4x500x2, .i32⟩
  | 70 => ⟨S_, .i32⟩
  | 71 => ⟨S4x500x2, .i32⟩
  | 72 => ⟨S4x500x2, .i1⟩
  | 73 => ⟨S_, .i32⟩
  | 74 => ⟨S4x500x2, .i32⟩
  | 75 => ⟨S4x500x2, .i32⟩
  | 76 => ⟨S4x500x2, .i32⟩
  | 77 => ⟨S4x500x2x1, .i32⟩
  | 78 => ⟨S1, .i32⟩
  | 79 => ⟨S_, .i32⟩
  | 80 => ⟨S4x500x2x1, .i32⟩
  | 81 => ⟨S4x500x2x1, .i1⟩
  | 82 => ⟨S1x1x1x1, .i32⟩
  | 83 => ⟨S4x500x2x1, .i32⟩
  | 84 => ⟨S4x500x2x1, .i1⟩
  | 85 => ⟨S4x500x2x1, .i1⟩
  | 86 => ⟨S_, .i1⟩
  | 87 => ⟨S4x500x2, .i1⟩
  | 88 => ⟨S4x500x2, .f32⟩
  | 89 => ⟨S_, .f32⟩
  | 90 => ⟨S4x500x2, .f32⟩
  | 91 => ⟨S4x500x2, .f32⟩
  | 92 => ⟨S_, .f32⟩
  | 93 => ⟨S4x500x1, .f32⟩
  | 94 => ⟨S4x500x1, .f32⟩
  | 95 => ⟨S_, .f32⟩
  | 96 => ⟨S4x500x1, .f32⟩
  | 97 => ⟨S4x500x1, .f32⟩
  | 98 => ⟨S_, .f32⟩
  | 99 => ⟨S4x500x1, .f32⟩
  | 100 => ⟨S4x500x1, .f32⟩
  | 101 => ⟨S_, .f32⟩
  | 102 => ⟨S4x500x1, .f32⟩
  | 103 => ⟨S4x500x1, .f32⟩
  | 104 => ⟨S_, .f32⟩
  | 105 => ⟨S4x500x1, .f32⟩
  | 106 => ⟨S4x500x1, .f32⟩
  | 107 => ⟨S_, .f32⟩
  | 108 => ⟨S4x500x1, .f32⟩
  | 109 => ⟨S4x500x1, .f32⟩
  | 110 => ⟨S4x500x9, .f32⟩
  | 111 => ⟨S4x500x3, .f32⟩
  | 112 => ⟨S1x1x3, .f32⟩
  | 113 => ⟨S4x500x3, .f32⟩
  | 114 => ⟨S4x500x3, .i1⟩
  | 115 => ⟨S_, .i1⟩
  | 116 => ⟨S4x500, .i1⟩
  | 117 => ⟨S4x500x3, .f32⟩
  | 118 => ⟨S1x1x3, .f32⟩
  | 119 => ⟨S4x500x3, .f32⟩
  | 120 => ⟨S4x500x3, .i1⟩
  | 121 => ⟨S_, .i1⟩
  | 122 => ⟨S4x500, .i1⟩
  | 123 => ⟨S4x500, .i1⟩
  | 124 => ⟨S_, .f32⟩
  | 125 => ⟨S_, .f32⟩
  | 126 => ⟨S4x500, .f32⟩
  | 127 => ⟨S4x500, .f32⟩
  | _ => ⟨S4x2x512x512, .f32⟩

abbrev hbmTy (i : Nat) : BufTy := match i / 128 with
  | 0 => hbmTy0_0 i
  | 1 => hbmTy0_1 i
  | 2 => hbmTy0_2 i
  | _ => ⟨S4x2x512x512, .f32⟩

abbrev bufTy : (tb : Table) → Fin (tcTables nBuf tb) → BufTy
  | .hbm, ⟨i, _⟩ => hbmTy i
  | _, _ => ⟨S4x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_values : Ref sig .tc := ⟨.hbm, 26, rfl⟩
abbrev main_indices : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v15 : Ref sig .tc := ⟨.hbm, 49, rfl⟩
abbrev main_c_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v16 : Ref sig .tc := ⟨.hbm, 67, rfl⟩
abbrev main_v17 : Ref sig .tc := ⟨.hbm, 68, rfl⟩
abbrev main_c_5 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_v5 : Ref sig .tc := ⟨.hbm, 78, rfl⟩
abbrev main_call2_v6 : Ref sig .tc := ⟨.hbm, 79, rfl⟩
abbrev main_call2_c_2 : Ref sig .tc := ⟨.hbm, 80, rfl⟩
abbrev main_call2_v7 : Ref sig .tc := ⟨.hbm, 81, rfl⟩
abbrev main_call2_v8 : Ref sig .tc := ⟨.hbm, 82, rfl⟩
abbrev main_call2_c_3 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_values_6 : Ref sig .tc := ⟨.hbm, 93, rfl⟩
abbrev main_indices_7 : Ref sig .tc := ⟨.hbm, 94, rfl⟩
abbrev main_c_8 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_c : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_0 : Ref sig .tc := ⟨.hbm, 109, rfl⟩
abbrev main_call3_v12 : Ref sig .tc := ⟨.hbm, 110, rfl⟩
abbrev main_call3_v13 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_c_1 : Ref sig .tc := ⟨.hbm, 122, rfl⟩
abbrev main_call4_c_2 : Ref sig .tc := ⟨.hbm, 123, rfl⟩
abbrev main_call4_v5 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_c_3 : Ref sig .tc := ⟨.hbm, 130, rfl⟩
abbrev main_call4_v11 : Ref sig .tc := ⟨.hbm, 131, rfl⟩
abbrev main_call4_v12 : Ref sig .tc := ⟨.hbm, 132, rfl⟩
abbrev main_call4_v13 : Ref sig .tc := ⟨.hbm, 133, rfl⟩
abbrev main_call4_c_4 : Ref sig .tc := ⟨.hbm, 134, rfl⟩
abbrev main_call4_v14 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_c_1 : Ref sig .tc := ⟨.hbm, 147, rfl⟩
abbrev main_call5_c_2 : Ref sig .tc := ⟨.hbm, 148, rfl⟩
abbrev main_call5_v5 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_c_3 : Ref sig .tc := ⟨.hbm, 155, rfl⟩
abbrev main_call5_v11 : Ref sig .tc := ⟨.hbm, 156, rfl⟩
abbrev main_call5_v12 : Ref sig .tc := ⟨.hbm, 157, rfl⟩
abbrev main_call5_v13 : Ref sig .tc := ⟨.hbm, 158, rfl⟩
abbrev main_call5_cst : Ref sig .tc := ⟨.hbm, 159, rfl⟩
abbrev main_call5_v14 : Ref sig .tc := ⟨.hbm, 160, rfl⟩
abbrev main_v28 : Ref sig .tc := ⟨.hbm, 161, rfl⟩
abbrev main_v29 : Ref sig .tc := ⟨.hbm, 162, rfl⟩
abbrev main_v30 : Ref sig .tc := ⟨.hbm, 163, rfl⟩
abbrev main_v31 : Ref sig .tc := ⟨.hbm, 164, rfl⟩
abbrev main_call6_c : Ref sig .tc := ⟨.hbm, 165, rfl⟩
abbrev main_call6_v0 : Ref sig .tc := ⟨.hbm, 166, rfl⟩
abbrev main_call6_v1 : Ref sig .tc := ⟨.hbm, 167, rfl⟩
abbrev main_call6_c_0 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_call6_c_1 : Ref sig .tc := ⟨.hbm, 172, rfl⟩
abbrev main_call6_c_2 : Ref sig .tc := ⟨.hbm, 173, rfl⟩
abbrev main_call6_v5 : Ref sig .tc := ⟨.hbm, 174, rfl⟩
abbrev main_call6_v6 : Ref sig .tc := ⟨.hbm, 175, rfl⟩
abbrev main_call6_v7 : Ref sig .tc := ⟨.hbm, 176, rfl⟩
abbrev main_call6_v8 : Ref sig .tc := ⟨.hbm, 177, rfl⟩
abbrev main_call6_v9 : Ref sig .tc := ⟨.hbm, 178, rfl⟩
abbrev main_call6_v10 : Ref sig .tc := ⟨.hbm, 179, rfl⟩
abbrev main_call6_c_3 : Ref sig .tc := ⟨.hbm, 180, rfl⟩
abbrev main_call6_v11 : Ref sig .tc := ⟨.hbm, 181, rfl⟩
abbrev main_call6_v12 : Ref sig .tc := ⟨.hbm, 182, rfl⟩
abbrev main_call6_v13 : Ref sig .tc := ⟨.hbm, 183, rfl⟩
abbrev main_call6_cst : Ref sig .tc := ⟨.hbm, 184, rfl⟩
abbrev main_call6_v14 : Ref sig .tc := ⟨.hbm, 185, rfl⟩
abbrev main_v32 : Ref sig .tc := ⟨.hbm, 186, rfl⟩
abbrev main_v33 : Ref sig .tc := ⟨.hbm, 187, rfl⟩
abbrev main_v34 : Ref sig .tc := ⟨.hbm, 188, rfl⟩
abbrev main_v35 : Ref sig .tc := ⟨.hbm, 189, rfl⟩
abbrev main_v36 : Ref sig .tc := ⟨.hbm, 190, rfl⟩
abbrev main_v37 : Ref sig .tc := ⟨.hbm, 191, rfl⟩
abbrev main_call7_c : Ref sig .tc := ⟨.hbm, 192, rfl⟩
abbrev main_call7_v0 : Ref sig .tc := ⟨.hbm, 193, rfl⟩
abbrev main_call7_v1 : Ref sig .tc := ⟨.hbm, 194, rfl⟩
abbrev main_call7_c_0 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_c_1 : Ref sig .tc := ⟨.hbm, 200, rfl⟩
abbrev main_call7_c_2 : Ref sig .tc := ⟨.hbm, 201, rfl⟩
abbrev main_call7_v6 : Ref sig .tc := ⟨.hbm, 202, rfl⟩
abbrev main_call7_v7 : Ref sig .tc := ⟨.hbm, 203, rfl⟩
abbrev main_call7_v8 : Ref sig .tc := ⟨.hbm, 204, rfl⟩
abbrev main_call7_v9 : Ref sig .tc := ⟨.hbm, 205, rfl⟩
abbrev main_call7_v10 : Ref sig .tc := ⟨.hbm, 206, rfl⟩
abbrev main_call7_v11 : Ref sig .tc := ⟨.hbm, 207, rfl⟩
abbrev main_call7_c_3 : Ref sig .tc := ⟨.hbm, 208, rfl⟩
abbrev main_call7_v12 : Ref sig .tc := ⟨.hbm, 209, rfl⟩
abbrev main_call7_v13 : Ref sig .tc := ⟨.hbm, 210, rfl⟩
abbrev main_call7_cst : Ref sig .tc := ⟨.hbm, 211, rfl⟩
abbrev main_call7_v14 : Ref sig .tc := ⟨.hbm, 212, rfl⟩
abbrev main_v38 : Ref sig .tc := ⟨.hbm, 213, rfl⟩
abbrev main_v39 : Ref sig .tc := ⟨.hbm, 214, rfl⟩
abbrev main_v40 : Ref sig .tc := ⟨.hbm, 215, rfl⟩
abbrev main_v41 : Ref sig .tc := ⟨.hbm, 216, rfl⟩
abbrev main_v42 : Ref sig .tc := ⟨.hbm, 217, rfl⟩
abbrev main_v43 : Ref sig .tc := ⟨.hbm, 218, rfl⟩
abbrev main_v44 : Ref sig .tc := ⟨.hbm, 219, rfl⟩
abbrev main_v45 : Ref sig .tc := ⟨.hbm, 220, rfl⟩
abbrev main_v46 : Ref sig .tc := ⟨.hbm, 221, rfl⟩
abbrev main_v47 : Ref sig .tc := ⟨.hbm, 222, rfl⟩
abbrev main_call8_c : Ref sig .tc := ⟨.hbm, 223, rfl⟩
abbrev main_call8_v0 : Ref sig .tc := ⟨.hbm, 224, rfl⟩
abbrev main_call8_v1 : Ref sig .tc := ⟨.hbm, 225, rfl⟩
abbrev main_call8_c_0 : Ref sig .tc := ⟨.hbm, 226, rfl⟩
abbrev main_call8_v2 : Ref sig .tc := ⟨.hbm, 227, rfl⟩
abbrev main_call8_v3 : Ref sig .tc := ⟨.hbm, 228, rfl⟩
abbrev main_call8_v4 : Ref sig .tc := ⟨.hbm, 229, rfl⟩
abbrev main_call8_c_1 : Ref sig .tc := ⟨.hbm, 230, rfl⟩
abbrev main_call8_c_2 : Ref sig .tc := ⟨.hbm, 231, rfl⟩
abbrev main_call8_v5 : Ref sig .tc := ⟨.hbm, 232, rfl⟩
abbrev main_call8_v6 : Ref sig .tc := ⟨.hbm, 233, rfl⟩
abbrev main_call8_v7 : Ref sig .tc := ⟨.hbm, 234, rfl⟩
abbrev main_call8_v8 : Ref sig .tc := ⟨.hbm, 235, rfl⟩
abbrev main_call8_v9 : Ref sig .tc := ⟨.hbm, 236, rfl⟩
abbrev main_call8_v10 : Ref sig .tc := ⟨.hbm, 237, rfl⟩
abbrev main_call8_c_3 : Ref sig .tc := ⟨.hbm, 238, rfl⟩
abbrev main_call8_v11 : Ref sig .tc := ⟨.hbm, 239, rfl⟩
abbrev main_call8_v12 : Ref sig .tc := ⟨.hbm, 240, rfl⟩
abbrev main_call8_v13 : Ref sig .tc := ⟨.hbm, 241, rfl⟩
abbrev main_call8_cst : Ref sig .tc := ⟨.hbm, 242, rfl⟩
abbrev main_call8_v14 : Ref sig .tc := ⟨.hbm, 243, rfl⟩
abbrev main_v48 : Ref sig .tc := ⟨.hbm, 244, rfl⟩
abbrev main_v49 : Ref sig .tc := ⟨.hbm, 245, rfl⟩
abbrev main_v50 : Ref sig .tc := ⟨.hbm, 246, rfl⟩
abbrev main_v51 : Ref sig .tc := ⟨.hbm, 247, rfl⟩
abbrev main_call9_c : Ref sig .tc := ⟨.hbm, 248, rfl⟩
abbrev main_call9_v0 : Ref sig .tc := ⟨.hbm, 249, rfl⟩
abbrev main_call9_v1 : Ref sig .tc := ⟨.hbm, 250, rfl⟩
abbrev main_call9_c_0 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_call9_c_1 : Ref sig .tc := ⟨.hbm, 255, rfl⟩
abbrev main_call9_c_2 : Ref sig .tc := ⟨.hbm, 256, rfl⟩
abbrev main_call9_v5 : Ref sig .tc := ⟨.hbm, 257, rfl⟩
abbrev main_call9_v6 : Ref sig .tc := ⟨.hbm, 258, rfl⟩
abbrev main_call9_v7 : Ref sig .tc := ⟨.hbm, 259, rfl⟩
abbrev main_call9_v8 : Ref sig .tc := ⟨.hbm, 260, rfl⟩
abbrev main_call9_v9 : Ref sig .tc := ⟨.hbm, 261, rfl⟩
abbrev main_call9_v10 : Ref sig .tc := ⟨.hbm, 262, rfl⟩
abbrev main_call9_c_3 : Ref sig .tc := ⟨.hbm, 263, rfl⟩
abbrev main_call9_v11 : Ref sig .tc := ⟨.hbm, 264, rfl⟩
abbrev main_call9_v12 : Ref sig .tc := ⟨.hbm, 265, rfl⟩
abbrev main_call9_v13 : Ref sig .tc := ⟨.hbm, 266, rfl⟩
abbrev main_call9_cst : Ref sig .tc := ⟨.hbm, 267, rfl⟩
abbrev main_call9_v14 : Ref sig .tc := ⟨.hbm, 268, rfl⟩
abbrev main_v52 : Ref sig .tc := ⟨.hbm, 269, rfl⟩
abbrev main_v53 : Ref sig .tc := ⟨.hbm, 270, rfl⟩
abbrev main_v54 : Ref sig .tc := ⟨.hbm, 271, rfl⟩
abbrev main_v55 : Ref sig .tc := ⟨.hbm, 272, rfl⟩
abbrev main_v56 : Ref sig .tc := ⟨.hbm, 273, rfl⟩
abbrev main_call10_c : Ref sig .tc := ⟨.hbm, 274, rfl⟩
abbrev main_call10_v0 : Ref sig .tc := ⟨.hbm, 275, rfl⟩
abbrev main_call10_v1 : Ref sig .tc := ⟨.hbm, 276, rfl⟩
abbrev main_call10_c_0 : Ref sig .tc := ⟨.hbm, 277, rfl⟩
abbrev main_call10_v2 : Ref sig .tc := ⟨.hbm, 278, rfl⟩
abbrev main_call10_v3 : Ref sig .tc := ⟨.hbm, 279, rfl⟩
abbrev main_call10_v4 : Ref sig .tc := ⟨.hbm, 280, rfl⟩
abbrev main_call10_c_1 : Ref sig .tc := ⟨.hbm, 281, rfl⟩
abbrev main_call10_c_2 : Ref sig .tc := ⟨.hbm, 282, rfl⟩
abbrev main_call10_v5 : Ref sig .tc := ⟨.hbm, 283, rfl⟩
abbrev main_call10_v6 : Ref sig .tc := ⟨.hbm, 284, rfl⟩
abbrev main_call10_v7 : Ref sig .tc := ⟨.hbm, 285, rfl⟩
abbrev main_call10_v8 : Ref sig .tc := ⟨.hbm, 286, rfl⟩
abbrev main_call10_v9 : Ref sig .tc := ⟨.hbm, 287, rfl⟩
abbrev main_call10_v10 : Ref sig .tc := ⟨.hbm, 288, rfl⟩
abbrev main_call10_c_3 : Ref sig .tc := ⟨.hbm, 289, rfl⟩
abbrev main_call10_v11 : Ref sig .tc := ⟨.hbm, 290, rfl⟩
abbrev main_call10_v12 : Ref sig .tc := ⟨.hbm, 291, rfl⟩
abbrev main_call10_v13 : Ref sig .tc := ⟨.hbm, 292, rfl⟩
abbrev main_call10_cst : Ref sig .tc := ⟨.hbm, 293, rfl⟩
abbrev main_call10_v14 : Ref sig .tc := ⟨.hbm, 294, rfl⟩
abbrev main_v57 : Ref sig .tc := ⟨.hbm, 295, rfl⟩
abbrev main_v58 : Ref sig .tc := ⟨.hbm, 296, rfl⟩
abbrev main_v59 : Ref sig .tc := ⟨.hbm, 297, rfl⟩
abbrev main_v60 : Ref sig .tc := ⟨.hbm, 298, rfl⟩
abbrev main_v61 : Ref sig .tc := ⟨.hbm, 299, rfl⟩
abbrev main_call11_c : Ref sig .tc := ⟨.hbm, 300, rfl⟩
abbrev main_call11_v0 : Ref sig .tc := ⟨.hbm, 301, rfl⟩
abbrev main_call11_v1 : Ref sig .tc := ⟨.hbm, 302, rfl⟩
abbrev main_call11_c_0 : Ref sig .tc := ⟨.hbm, 303, rfl⟩
abbrev main_call11_v2 : Ref sig .tc := ⟨.hbm, 304, rfl⟩
abbrev main_call11_v3 : Ref sig .tc := ⟨.hbm, 305, rfl⟩
abbrev main_call11_v4 : Ref sig .tc := ⟨.hbm, 306, rfl⟩
abbrev main_call11_v5 : Ref sig .tc := ⟨.hbm, 307, rfl⟩
abbrev main_call11_c_1 : Ref sig .tc := ⟨.hbm, 308, rfl⟩
abbrev main_call11_c_2 : Ref sig .tc := ⟨.hbm, 309, rfl⟩
abbrev main_call11_v6 : Ref sig .tc := ⟨.hbm, 310, rfl⟩
abbrev main_call11_v7 : Ref sig .tc := ⟨.hbm, 311, rfl⟩
abbrev main_call11_v8 : Ref sig .tc := ⟨.hbm, 312, rfl⟩
abbrev main_call11_v9 : Ref sig .tc := ⟨.hbm, 313, rfl⟩
abbrev main_call11_v10 : Ref sig .tc := ⟨.hbm, 314, rfl⟩
abbrev main_call11_v11 : Ref sig .tc := ⟨.hbm, 315, rfl⟩
abbrev main_call11_c_3 : Ref sig .tc := ⟨.hbm, 316, rfl⟩
abbrev main_call11_v12 : Ref sig .tc := ⟨.hbm, 317, rfl⟩
abbrev main_call11_v13 : Ref sig .tc := ⟨.hbm, 318, rfl⟩
abbrev main_call11_cst : Ref sig .tc := ⟨.hbm, 319, rfl⟩
abbrev main_call11_v14 : Ref sig .tc := ⟨.hbm, 320, rfl⟩
abbrev main_v62 : Ref sig .tc := ⟨.hbm, 321, rfl⟩
abbrev main_v63 : Ref sig .tc := ⟨.hbm, 322, rfl⟩
abbrev main_v64 : Ref sig .tc := ⟨.hbm, 323, rfl⟩
abbrev main_v65 : Ref sig .tc := ⟨.hbm, 324, rfl⟩
abbrev main_v66 : Ref sig .tc := ⟨.hbm, 325, rfl⟩
abbrev main_call12_c : Ref sig .tc := ⟨.hbm, 326, rfl⟩
abbrev main_call12_v0 : Ref sig .tc := ⟨.hbm, 327, rfl⟩
abbrev main_call12_v1 : Ref sig .tc := ⟨.hbm, 328, rfl⟩
abbrev main_call12_c_0 : Ref sig .tc := ⟨.hbm, 329, rfl⟩
abbrev main_call12_v2 : Ref sig .tc := ⟨.hbm, 330, rfl⟩
abbrev main_call12_v3 : Ref sig .tc := ⟨.hbm, 331, rfl⟩
abbrev main_call12_v4 : Ref sig .tc := ⟨.hbm, 332, rfl⟩
abbrev main_call12_v5 : Ref sig .tc := ⟨.hbm, 333, rfl⟩
abbrev main_call12_c_1 : Ref sig .tc := ⟨.hbm, 334, rfl⟩
abbrev main_call12_c_2 : Ref sig .tc := ⟨.hbm, 335, rfl⟩
abbrev main_call12_v6 : Ref sig .tc := ⟨.hbm, 336, rfl⟩
abbrev main_call12_v7 : Ref sig .tc := ⟨.hbm, 337, rfl⟩
abbrev main_call12_v8 : Ref sig .tc := ⟨.hbm, 338, rfl⟩
abbrev main_call12_v9 : Ref sig .tc := ⟨.hbm, 339, rfl⟩
abbrev main_call12_v10 : Ref sig .tc := ⟨.hbm, 340, rfl⟩
abbrev main_call12_v11 : Ref sig .tc := ⟨.hbm, 341, rfl⟩
abbrev main_call12_c_3 : Ref sig .tc := ⟨.hbm, 342, rfl⟩
abbrev main_call12_v12 : Ref sig .tc := ⟨.hbm, 343, rfl⟩
abbrev main_call12_v13 : Ref sig .tc := ⟨.hbm, 344, rfl⟩
abbrev main_call12_cst : Ref sig .tc := ⟨.hbm, 345, rfl⟩
abbrev main_call12_v14 : Ref sig .tc := ⟨.hbm, 346, rfl⟩
abbrev main_v67 : Ref sig .tc := ⟨.hbm, 347, rfl⟩
abbrev main_cst_9 : Ref sig .tc := ⟨.hbm, 348, rfl⟩
abbrev main_v68 : Ref sig .tc := ⟨.hbm, 349, rfl⟩
abbrev main_v69 : Ref sig .tc := ⟨.hbm, 350, rfl⟩
abbrev main_cst_10 : Ref sig .tc := ⟨.hbm, 351, rfl⟩
abbrev main_v70 : Ref sig .tc := ⟨.hbm, 352, rfl⟩
abbrev main_v71 : Ref sig .tc := ⟨.hbm, 353, rfl⟩
abbrev main_cst_11 : Ref sig .tc := ⟨.hbm, 354, rfl⟩
abbrev main_v72 : Ref sig .tc := ⟨.hbm, 355, rfl⟩
abbrev main_v73 : Ref sig .tc := ⟨.hbm, 356, rfl⟩
abbrev main_cst_12 : Ref sig .tc := ⟨.hbm, 357, rfl⟩
abbrev main_v74 : Ref sig .tc := ⟨.hbm, 358, rfl⟩
abbrev main_v75 : Ref sig .tc := ⟨.hbm, 359, rfl⟩
abbrev main_cst_13 : Ref sig .tc := ⟨.hbm, 360, rfl⟩
abbrev main_v76 : Ref sig .tc := ⟨.hbm, 361, rfl⟩
abbrev main_v77 : Ref sig .tc := ⟨.hbm, 362, rfl⟩
abbrev main_cst_14 : Ref sig .tc := ⟨.hbm, 363, rfl⟩
abbrev main_v78 : Ref sig .tc := ⟨.hbm, 364, rfl⟩
abbrev main_v79 : Ref sig .tc := ⟨.hbm, 365, rfl⟩
abbrev main_v80 : Ref sig .tc := ⟨.hbm, 366, rfl⟩
abbrev main_v81 : Ref sig .tc := ⟨.hbm, 367, rfl⟩
abbrev main_v82 : Ref sig .tc := ⟨.hbm, 368, rfl⟩
abbrev main_v83 : Ref sig .tc := ⟨.hbm, 369, rfl⟩
abbrev main_v84 : Ref sig .tc := ⟨.hbm, 370, rfl⟩
abbrev main_c_15 : Ref sig .tc := ⟨.hbm, 371, rfl⟩
abbrev main_v85 : Ref sig .tc := ⟨.hbm, 372, rfl⟩
abbrev main_v86 : Ref sig .tc := ⟨.hbm, 373, rfl⟩
abbrev main_v87 : Ref sig .tc := ⟨.hbm, 374, rfl⟩
abbrev main_v88 : Ref sig .tc := ⟨.hbm, 375, rfl⟩
abbrev main_v89 : Ref sig .tc := ⟨.hbm, 376, rfl⟩
abbrev main_c_16 : Ref sig .tc := ⟨.hbm, 377, rfl⟩
abbrev main_v90 : Ref sig .tc := ⟨.hbm, 378, rfl⟩
abbrev main_v91 : Ref sig .tc := ⟨.hbm, 379, rfl⟩
abbrev main_cst_17 : Ref sig .tc := ⟨.hbm, 380, rfl⟩
abbrev main_call13_v0 : Ref sig .tc := ⟨.hbm, 381, rfl⟩
abbrev main_call13_v1 : Ref sig .tc := ⟨.hbm, 382, rfl⟩
abbrev main_v92 : Ref sig .tc := ⟨.hbm, 383, rfl⟩

abbrev nD : Nat := 1
abbrev τ : Topo := Topo.v7x

variable {F : FTy → Type} [FloatOps F]
-- ==== Proof.Take.lean ====
/- Reading entries of an array at computed positions.

   Both programs fetch entries with the same sequence of operations: a negative position has the length added to it,
   a flag records whether the resulting position lies inside the array, the entry is gathered, and where the flag is
   false a fill value is put instead. This module names those sequences for the three layouts that occur and shows
   that, when every position lies inside the array, each of them simply reads the entry at that position. -/
module

public import Idealize.ShloMosaic.Lib.ValueIdx
public import Idealize.ShloMosaic.Lib.ReduceAll
public import Idealize.ShloMosaic.Lib.Pipeline.Value

@[expose] public section

noncomputable section

namespace Cert.Decode

open Idealize.ShloMosaic Idealize.ShloMosaic.ValueIdx

variable {α : Type}

/-! ## One word -/

/-- A position with the length `n` added when it is negative. -/
def wrap (n v : BitVec 32) : BitVec 32 :=
  Scalar.select (IntOp.cmpi .slt v 0#32) (IntOp.addi v n) v

/-- Whether a position lies between zero and `hi`. -/
def within (hi v : BitVec 32) : BitVec 1 := IntOp.andi (IntOp.cmpi .sge v 0#32) (IntOp.cmpi .sle v hi)

/-- A word below half the range is the same number read signed or unsigned. -/
theorem toInt_of_small {v : BitVec 32} (h : v.toNat < 2147483648) : v.toInt = (v.toNat : Int) := by
  rw [BitVec.toInt_eq_toNat_cond, if_pos (by omega)]

/-- A position that is not negative is left alone. -/
theorem wrap_of_small {n v : BitVec 32} (h : v.toNat < 2147483648) : wrap n v = v := by
  have hs : IntOp.cmpi .slt v 0#32 = 0#1 := by
    have : v.slt 0#32 = false := by
      rw [BitVec.slt_eq_decide, toInt_of_small h]; simp
    simp [IntOp.cmpi, this]
  unfold wrap
  rw [hs]; rfl

/-- A position at most `hi` lies inside. -/
theorem within_of_le {hi v : BitVec 32} (hh : hi.toNat < 2147483648) (h : v.toNat ≤ hi.toNat) : within hi v = 1#1 := by
  have hv : v.toNat < 2147483648 := by omega
  have h1 : (0#32 : BitVec 32).sle v = true := by
    rw [BitVec.sle_eq_decide, toInt_of_small hv]; simp
  have h2 : v.sle hi = true := by
    rw [BitVec.sle_eq_decide, toInt_of_small hv, toInt_of_small hh]; simpa using h
  unfold within
  simp [IntOp.cmpi, IntOp.andi, h1, h2]

/-! ## The guarded gather -/

/-- The rank-zero shape. -/
abbrev Sc : Shape := ⟨0, ![]⟩

/-- The rank-zero shape has one element. -/
theorem Sc_pos : 0 < Sc.numel := by decide

/-- Gather, with the fill value where some start index of the result's position lies outside `[0, hi]`. -/
def fetch {s si t : Shape} {axes : List (Fin si.rank)} (d : GatherDims s si t) (hr : si.ReducesTo axes t)
    (hi : BitVec 32) (fill : α) (x : s.Idx → α) (st : IVec si 32) : t.Idx → α :=
  select (Host.reduce IntOp.andi (fun j => within hi (st j)) (fun _ : Sc.Idx => 1#1) hr Sc_pos)
    (Host.gather d x st) (fun _ => fill)

/-- The same with the flags computed on a smaller shape and repeated along the result's further axes. -/
def fetchB {s si u t : Shape} {axes : List (Fin si.rank)} (d : GatherDims s si t) (hr : si.ReducesTo axes u)
    (dims : Fin u.rank → Fin t.rank) (hb : u.BroadcastsInDim t dims)
    (hi : BitVec 32) (fill : α) (x : s.Idx → α) (st : IVec si 32) : t.Idx → α :=
  select (broadcastInDim t dims hb
      (Host.reduce IntOp.andi (fun j => within hi (st j)) (fun _ : Sc.Idx => 1#1) hr Sc_pos))
    (Host.gather d x st) (fun _ => fill)

/-- With every start index inside, the guarded gather is the gather. -/
theorem fetch_eq {s si t : Shape} {axes : List (Fin si.rank)} (d : GatherDims s si t) (hr : si.ReducesTo axes t)
    (hi : BitVec 32) (fill : α) (x : s.Idx → α) (st : IVec si 32) (hh : hi.toNat < 2147483648)
    (h : ∀ j, (st j).toNat ≤ hi.toNat) : fetch d hr hi fill x st = Host.gather d x st := by
  funext j
  unfold fetch
  rw [select_apply, Host.reduce_andi_one _ _ hr Sc_pos j rfl fun i => within_of_le hh (h i), select_one]

/-- With every start index inside, the guarded gather with repeated flags is the gather. -/
theorem fetchB_eq {s si u t : Shape} {axes : List (Fin si.rank)} (d : GatherDims s si t) (hr : si.ReducesTo axes u)
    (dims : Fin u.rank → Fin t.rank) (hb : u.BroadcastsInDim t dims)
    (hi : BitVec 32) (fill : α) (x : s.Idx → α) (st : IVec si 32) (hh : hi.toNat < 2147483648)
    (h : ∀ j, (st j).toNat ≤ hi.toNat) : fetchB d hr dims hb hi fill x st = Host.gather d x st := by
  funext j
  unfold fetchB
  rw [select_apply]
  have e : broadcastInDim t dims hb
      (Host.reduce IntOp.andi (fun j => within hi (st j)) (fun _ : Sc.Idx => 1#1) hr Sc_pos) j = 1#1 :=
    Host.reduce_andi_one _ _ hr Sc_pos _ rfl fun i => within_of_le hh (h i)
  rw [e, select_one]

/-! ## The three layouts of dimension numbers, read at an index -/

/-- Rows `[B, N]` read at positions `[B, K]` kept as `[B, K, 1]`. -/
abbrev rowDims (B N K : Nat) (wf : GatherDims.WF ⟨2, ![B, N]⟩ ⟨3, ![B, K, 1]⟩ ⟨2, ![B, K]⟩ [] [1] [0] [1] [0] 2 ![1, 1]) :
    GatherDims ⟨2, ![B, N]⟩ ⟨3, ![B, K, 1]⟩ ⟨2, ![B, K]⟩ where
  offsetDims := []
  collapsedSliceDims := [1]
  operandBatchingDims := [0]
  startIndicesBatchingDims := [0]
  startIndexMap := [1]
  indexVectorDim := 2
  sliceSizes := ![1, 1]
  wf := wf

/-- Columns `[B, N, 1]` read at positions `[B, K, 1]`, the last axis of the operand kept. -/
abbrev colDims (B N K : Nat)
    (wf : GatherDims.WF ⟨3, ![B, N, 1]⟩ ⟨3, ![B, K, 1]⟩ ⟨3, ![B, K, 1]⟩ [2] [1] [0] [1] [0] 2 ![1, 1, 1]) :
    GatherDims ⟨3, ![B, N, 1]⟩ ⟨3, ![B, K, 1]⟩ ⟨3, ![B, K, 1]⟩ where
  offsetDims := [2]
  collapsedSliceDims := [1]
  operandBatchingDims := [0]
  startIndicesBatchingDims := [0]
  startIndexMap := [1]
  indexVectorDim := 2
  sliceSizes := ![1, 1, 1]
  wf := wf

/-- Channels `[B, N, C]` read at positions `[B, K, C]` kept as `[B, K, C, 1]`. -/
abbrev chanDims (B N K C : Nat)
    (wf : GatherDims.WF ⟨3, ![B, N, C]⟩ ⟨4, ![B, K, C, 1]⟩ ⟨3, ![B, K, C]⟩ [] [1] [0, 2] [1] [0, 2] 3 ![1, 1, 1]) :
    GatherDims ⟨3, ![B, N, C]⟩ ⟨4, ![B, K, C, 1]⟩ ⟨3, ![B, K, C]⟩ where
  offsetDims := []
  collapsedSliceDims := [1]
  operandBatchingDims := [0, 2]
  startIndicesBatchingDims := [0, 2]
  startIndexMap := [1]
  indexVectorDim := 3
  sliceSizes := ![1, 1, 1]
  wf := wf

/-- The row gather at `(b, k)` reads row `b` at the start index of `(b, k)`. -/
theorem gather_row_apply {B N K : Nat} (wf) (x : (⟨2, ![B, N]⟩ : Shape).Idx → α) (st : IVec ⟨3, ![B, K, 1]⟩ 32)
    (b : Fin B) (k : Fin K) (n : Fin N) (hn : (st (ix3 b k 0)).toNat = n.val) (hN : N ≤ 2147483648) :
    Host.gather (rowDims B N K wf) x st (ix2 b k) = x (ix2 b n) := by
  have hi : (st (ix3 b k 0)).toInt.toNat = n.val := by
    rw [toInt_of_small (by have := n.isLt; omega)]; simpa using hn
  unfold Host.gather
  congr 1
  funext a
  refine Fin.ext ?_
  show (rowDims B N K wf).start (ix2 b k) st a + (rowDims B N K wf).batchCoord (ix2 b k) a
      + (rowDims B N K wf).offCoord (ix2 b k) a = _
  have ha : a = 0 ∨ a = 1 := by
    match a with
    | ⟨0, _⟩ => exact Or.inl rfl
    | ⟨1, _⟩ => exact Or.inr <| rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims B N K wf).startIndexMap from List.mem_singleton.mpr rfl)]
    have hsi : (rowDims B N K wf).siIdx (ix2 b k) ⟨List.idxOf (1 : Fin 2) (rowDims B N K wf).startIndexMap,
        List.idxOf_lt_length_iff.2 (List.mem_singleton.mpr rfl)⟩ = ix3 b k 0 := by
      funext c; refine Fin.ext ?_
      match c with
      | ⟨0, _⟩ => rfl
      | ⟨1, _⟩ => rfl
      | ⟨2, _⟩ => rfl
    erw [hsi, hi]
    show min n.val (N - 1) = n.val
    have := n.isLt
    omega

/-- The column gather at `(b, k, 0)` reads column `b` at the start index of `(b, k, 0)`. -/
theorem gather_col_apply {B N K : Nat} (wf) (x : (⟨3, ![B, N, 1]⟩ : Shape).Idx → α) (st : IVec ⟨3, ![B, K, 1]⟩ 32)
    (b : Fin B) (k : Fin K) (z : Fin 1) (n : Fin N) (hn : (st (ix3 b k 0)).toNat = n.val) (hN : N ≤ 2147483648) :
    Host.gather (colDims B N K wf) x st (ix3 b k z) = x (ix3 b n z) := by
  have hi : (st (ix3 b k 0)).toInt.toNat = n.val := by
    rw [toInt_of_small (by have := n.isLt; omega)]; simpa using hn
  unfold Host.gather
  congr 1
  funext a
  refine Fin.ext ?_
  show (colDims B N K wf).start (ix3 b k z) st a + (colDims B N K wf).batchCoord (ix3 b k z) a
      + (colDims B N K wf).offCoord (ix3 b k z) a = _
  have ha : a = 0 ∨ a = 1 ∨ a = 2 := by
    match a with
    | ⟨0, _⟩ => exact Or.inl rfl
    | ⟨1, _⟩ => exact Or.inr <| Or.inl rfl
    | ⟨2, _⟩ => exact Or.inr <| Or.inr <| rfl
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (colDims B N K wf).startIndexMap from List.mem_singleton.mpr rfl)]
    have hsi : (colDims B N K wf).siIdx (ix3 b k z) ⟨List.idxOf (1 : Fin 3) (colDims B N K wf).startIndexMap,
        List.idxOf_lt_length_iff.2 (List.mem_singleton.mpr rfl)⟩ = ix3 b k 0 := by
      funext c; refine Fin.ext ?_
      match c with
      | ⟨0, _⟩ => rfl
      | ⟨1, _⟩ => rfl
      | ⟨2, _⟩ => rfl
    erw [hsi, hi]
    show min n.val (N - 1) = n.val
    have := n.isLt
    omega
  · have h0 : ∀ v : Fin 1, v.val = 0 := fun v => by omega
    refine Eq.trans (b := 0) ?_ (h0 z).symm
    have := (colDims B N K wf).lt (ix3 b k z) st 2
    have h1 : (⟨3, ![B, N, 1]⟩ : Shape).size 2 = 1 := rfl
    rw [h1] at this
    omega

/-- The channel gather at `(b, k, c)` reads channel `c` of row `b` at the start index of `(b, k, c)`. -/
theorem gather_chan_apply {B N K C : Nat} (wf) (x : (⟨3, ![B, N, C]⟩ : Shape).Idx → α) (st : IVec ⟨4, ![B, K, C, 1]⟩ 32)
    (b : Fin B) (k : Fin K) (c : Fin C) (n : Fin N) (hn : (st (ix4 b k c 0)).toNat = n.val) (hN : N ≤ 2147483648) :
    Host.gather (chanDims B N K C wf) x st (ix3 b k c) = x (ix3 b n c) := by
  have hi : (st (ix4 b k c 0)).toInt.toNat = n.val := by
    rw [toInt_of_small (by have := n.isLt; omega)]; simpa using hn
  unfold Host.gather
  congr 1
  funext a
  refine Fin.ext ?_
  show (chanDims B N K C wf).start (ix3 b k c) st a + (chanDims B N K C wf).batchCoord (ix3 b k c) a
      + (chanDims B N K C wf).offCoord (ix3 b k c) a = _
  have m0 : (0 : Fin 3) ∈ (chanDims B N K C wf).operandBatchingDims := List.mem_cons_self ..
  have m2 : (2 : Fin 3) ∈ (chanDims B N K C wf).operandBatchingDims :=
    List.mem_cons_of_mem _ (List.mem_singleton.mpr rfl)
  have ha : a = 0 ∨ a = 1 ∨ a = 2 := by
    match a with
    | ⟨0, _⟩ => exact Or.inl rfl
    | ⟨1, _⟩ => exact Or.inr <| Or.inl rfl
    | ⟨2, _⟩ => exact Or.inr <| Or.inr <| rfl
  rcases ha with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (chanDims B N K C wf).startIndexMap from List.mem_singleton.mpr rfl)]
    have hsi : (chanDims B N K C wf).siIdx (ix3 b k c) ⟨List.idxOf (1 : Fin 3) (chanDims B N K C wf).startIndexMap,
        List.idxOf_lt_length_iff.2 (List.mem_singleton.mpr rfl)⟩ = ix4 b k c 0 := by
      funext e; refine Fin.ext ?_
      match e with
      | ⟨0, _⟩ => rfl
      | ⟨1, _⟩ => rfl
      | ⟨2, _⟩ => rfl
      | ⟨3, _⟩ => rfl
    erw [hsi, hi]
    show min n.val (N - 1) = n.val
    have := n.isLt
    omega
  · rw [GatherDims.start_batching _ _ _ _ m2,
      GatherDims.offCoord_eq_zero _ _ _ (fun h => ((GatherDims.mem_sKept _ _).mp h).2 m2)]
    simp only [Nat.zero_add, Nat.add_zero]
    unfold GatherDims.batchCoord
    rw [dif_pos m2]
    rfl

/-! ## The whole sequence: wrap, guard, gather -/

/-- Rows `[B, N]` at positions `[B, K]`. -/
def takeRow {B N K : Nat} (wf : GatherDims.WF ⟨2, ![B, N]⟩ ⟨3, ![B, K, 1]⟩ ⟨2, ![B, K]⟩ [] [1] [0] [1] [0] 2 ![1, 1])
    (hr : (⟨3, ![B, K, 1]⟩ : Shape).ReducesTo [2] ⟨2, ![B, K]⟩) (hc : (⟨2, ![B, K]⟩ : Shape).ShapeCasts ⟨3, ![B, K, 1]⟩)
    (n hi : BitVec 32) (fill : α)
    (x : (⟨2, ![B, N]⟩ : Shape).Idx → α) (idx : IVec ⟨2, ![B, K]⟩ 32) : (⟨2, ![B, K]⟩ : Shape).Idx → α :=
  fetch (axes := [2]) (rowDims B N K wf) hr hi fill x (shapeCast ⟨3, ![B, K, 1]⟩ (fun i => wrap n (idx i)) hc)

/-- Columns `[B, N, 1]` at positions `[B, K, 1]`. -/
def takeCol {B N K : Nat} (wf : GatherDims.WF ⟨3, ![B, N, 1]⟩ ⟨3, ![B, K, 1]⟩ ⟨3, ![B, K, 1]⟩ [2] [1] [0] [1] [0] 2 ![1, 1, 1])
    (hr : (⟨3, ![B, K, 1]⟩ : Shape).ReducesTo [2] ⟨2, ![B, K]⟩) (hb : (⟨2, ![B, K]⟩ : Shape).BroadcastsInDim ⟨3, ![B, K, 1]⟩ (![0, 1] : Fin 2 → Fin 3))
    (n hi : BitVec 32) (fill : α)
    (x : (⟨3, ![B, N, 1]⟩ : Shape).Idx → α) (idx : IVec ⟨3, ![B, K, 1]⟩ 32) : (⟨3, ![B, K, 1]⟩ : Shape).Idx → α :=
  fetchB (u := ⟨2, ![B, K]⟩) (axes := [2]) (colDims B N K wf) hr ![0, 1] hb hi fill x (fun i => wrap n (idx i))

/-- Channels `[B, N, C]` at positions `[B, K, C]`. -/
def takeChan {B N K C : Nat} (wf : GatherDims.WF ⟨3, ![B, N, C]⟩ ⟨4, ![B, K, C, 1]⟩ ⟨3, ![B, K, C]⟩ [] [1] [0, 2] [1] [0, 2] 3 ![1, 1, 1])
    (hr : (⟨4, ![B, K, C, 1]⟩ : Shape).ReducesTo [3] ⟨3, ![B, K, C]⟩) (hc : (⟨3, ![B, K, C]⟩ : Shape).ShapeCasts ⟨4, ![B, K, C, 1]⟩)
    (n hi : BitVec 32)
    (fill : α) (x : (⟨3, ![B, N, C]⟩ : Shape).Idx → α) (idx : IVec ⟨3, ![B, K, C]⟩ 32) :
    (⟨3, ![B, K, C]⟩ : Shape).Idx → α :=
  fetch (axes := [3]) (chanDims B N K C wf) hr hi fill x (shapeCast ⟨4, ![B, K, C, 1]⟩ (fun i => wrap n (idx i)) hc)

/-- With every position inside, `takeRow` reads row `b` at the position of `(b, k)`. -/
theorem takeRow_apply {B N K : Nat} (wf : GatherDims.WF ⟨2, ![B, N]⟩ ⟨3, ![B, K, 1]⟩ ⟨2, ![B, K]⟩ [] [1] [0] [1] [0] 2 ![1, 1])
    (hr : (⟨3, ![B, K, 1]⟩ : Shape).ReducesTo [2] ⟨2, ![B, K]⟩) (hc : (⟨2, ![B, K]⟩ : Shape).ShapeCasts ⟨3, ![B, K, 1]⟩)
    (n hi : BitVec 32) (fill : α)
    (x : (⟨2, ![B, N]⟩ : Shape).Idx → α) (idx : IVec ⟨2, ![B, K]⟩ 32) (hN : N ≤ 2147483648) (hh : hi.toNat + 1 = N)
    (h : ∀ i, (idx i).toNat < N) (b : Fin B) (k : Fin K) :
    takeRow wf hr hc n hi fill x idx (ix2 b k) = x (ix2 b ⟨(idx (ix2 b k)).toNat, h _⟩) := by
  have hw : (fun i => wrap n (idx i)) = idx := funext fun i => wrap_of_small (by have := h i; omega)
  unfold takeRow
  rw [hw, fetch_eq _ _ _ _ _ _ (by omega) (fun j => by
    have := h (Shape.reshapeEquiv hc j)
    show (idx (Shape.reshapeEquiv hc j)).toNat ≤ _
    omega)]
  refine gather_row_apply wf x _ b k _ ?_ hN
  rw [shapeCast_apply idx hc (ix3 b k 0) (ix2 b k) (by
    rewrite [Shape.rowMajor_val_two, Shape.rowMajor_val_three]
    show b.val * K + k.val = (b.val * K + k.val) * 1 + 0
    omega)]

/-- With every position inside, `takeCol` reads column `b` at the position of `(b, k, 0)`. -/
theorem takeCol_apply {B N K : Nat} (wf : GatherDims.WF ⟨3, ![B, N, 1]⟩ ⟨3, ![B, K, 1]⟩ ⟨3, ![B, K, 1]⟩ [2] [1] [0] [1] [0] 2 ![1, 1, 1])
    (hr : (⟨3, ![B, K, 1]⟩ : Shape).ReducesTo [2] ⟨2, ![B, K]⟩) (hb : (⟨2, ![B, K]⟩ : Shape).BroadcastsInDim ⟨3, ![B, K, 1]⟩ (![0, 1] : Fin 2 → Fin 3))
    (n hi : BitVec 32) (fill : α)
    (x : (⟨3, ![B, N, 1]⟩ : Shape).Idx → α) (idx : IVec ⟨3, ![B, K, 1]⟩ 32) (hN : N ≤ 2147483648) (hh : hi.toNat + 1 = N)
    (h : ∀ i, (idx i).toNat < N) (b : Fin B) (k : Fin K) (z : Fin 1) :
    takeCol wf hr hb n hi fill x idx (ix3 b k z) = x (ix3 b ⟨(idx (ix3 b k 0)).toNat, h _⟩ z) := by
  have hw : (fun i => wrap n (idx i)) = idx := funext fun i => wrap_of_small (by have := h i; omega)
  unfold takeCol
  rw [hw, fetchB_eq _ _ _ _ _ _ _ _ (by omega) (fun j => by have := h j; omega)]
  exact gather_col_apply wf x idx b k z _ rfl hN

/-- With every position inside, `takeChan` reads channel `c` of row `b` at the position of `(b, k, c)`. -/
theorem takeChan_apply {B N K C : Nat} (wf : GatherDims.WF ⟨3, ![B, N, C]⟩ ⟨4, ![B, K, C, 1]⟩ ⟨3, ![B, K, C]⟩ [] [1] [0, 2] [1] [0, 2] 3 ![1, 1, 1])
    (hr : (⟨4, ![B, K, C, 1]⟩ : Shape).ReducesTo [3] ⟨3, ![B, K, C]⟩) (hc : (⟨3, ![B, K, C]⟩ : Shape).ShapeCasts ⟨4, ![B, K, C, 1]⟩)
    (n hi : BitVec 32) (fill : α)
    (x : (⟨3, ![B, N, C]⟩ : Shape).Idx → α) (idx : IVec ⟨3, ![B, K, C]⟩ 32) (hN : N ≤ 2147483648) (hh : hi.toNat + 1 = N)
    (h : ∀ i, (idx i).toNat < N) (b : Fin B) (k : Fin K) (c : Fin C) :
    takeChan wf hr hc n hi fill x idx (ix3 b k c) = x (ix3 b ⟨(idx (ix3 b k c)).toNat, h _⟩ c) := by
  have hw : (fun i => wrap n (idx i)) = idx := funext fun i => wrap_of_small (by have := h i; omega)
  unfold takeChan
  rw [hw, fetch_eq _ _ _ _ _ _ (by omega) (fun j => by
    have := h (Shape.reshapeEquiv hc j)
    show (idx (Shape.reshapeEquiv hc j)).toNat ≤ _
    omega)]
  refine gather_chan_apply wf x _ b k c _ ?_ hN
  rw [shapeCast_apply idx hc (ix4 b k c 0) (ix3 b k c) (by
    rewrite [Shape.rowMajor_val_three, Shape.rowMajor_val_four]
    show (b.val * K + k.val) * C + c.val = ((b.val * K + k.val) * C + c.val) * 1 + 0
    omega)]

end Cert.Decode

end
-- ==== Proof.Words.lean ====
/- Division and remainder of positions, and the positions that a selection of the greatest entries returns.

   The integer division and the remainder of both programs round down: they correct the machine's rounding towards zero
   by a test of signs. This module names the two corrected operations on arrays and on one word, shows that a remainder by
   a larger number changes nothing, and that every position which a selection of greatest entries returns lies inside
   the axis selected from. -/
module

public import Idealize.ShloMosaic.Lib.ValueIdx
public import proofs.«01_k».proof.Proof.Take

@[expose] public section

noncomputable section

namespace Cert.Decode

open Idealize.ShloMosaic Idealize.ShloMosaic.ValueIdx

/-! ## One word -/

/-- The sign of a word: -1, 0 or 1. -/
def signw (v : BitVec 32) : BitVec 32 := if v = 0 then 0 else if v.msb then -1 else 1

/-- Division of one word, rounded down. -/
def divw (n v : BitVec 32) : BitVec 32 :=
  Scalar.select (IntOp.andi (IntOp.cmpi .ne (signw v) (signw n)) (IntOp.cmpi .ne (IntOp.remsi .host v n) 0#32))
    (IntOp.subi (IntOp.divsi .host v n) 1#32) (IntOp.divsi .host v n)

/-- The divisor with zero replaced by one. -/
def nonzero (n : BitVec 32) : BitVec 32 := Scalar.select (IntOp.cmpi .eq n 0#32) 1#32 n

/-- Remainder of one word with the sign of the divisor. -/
def modw (n v : BitVec 32) : BitVec 32 :=
  Scalar.select
    (IntOp.andi
      (IntOp.cmpi .ne (IntOp.cmpi .slt (IntOp.remsi .host v (nonzero n)) 0#32) (IntOp.cmpi .slt (nonzero n) 0#32))
      (IntOp.cmpi .ne (IntOp.remsi .host v (nonzero n)) 0#32))
    (IntOp.addi (IntOp.remsi .host v (nonzero n)) (nonzero n)) (IntOp.remsi .host v (nonzero n))

/-- The remainder by 262144 of a word below 262144 is the word. -/
theorem modw_of_lt {v : BitVec 32} (h : v.toNat < 262144) : modw 262144#32 v = v := by
  have hn : nonzero 262144#32 = 262144#32 := by decide
  have hr : IntOp.remsi .host v 262144#32 = v := by
    have hc : ¬ IntOp.SDivCorner v 262144#32 := by
      rintro (h0 | ⟨-, h0⟩) <;> exact absurd h0 (by decide)
    have hv : v.msb = false := by
      rw [BitVec.msb_eq_false_iff_two_mul_lt]; omega
    unfold IntOp.remsi
    rw [if_neg hc, BitVec.srem_eq, hv]
    have : (262144#32 : BitVec 32).msb = false := by decide
    rw [this]
    refine BitVec.eq_of_toNat_eq ?_
    show (v % 262144#32).toNat = _
    rw [BitVec.toNat_umod]
    exact Nat.mod_eq_of_lt h
  have hs : IntOp.cmpi .slt v 0#32 = 0#1 := by
    have : v.slt 0#32 = false := by
      rw [BitVec.slt_eq_decide, toInt_of_small (by omega)]; simp
    simp [IntOp.cmpi, this]
  have ht : IntOp.cmpi .slt (262144#32 : BitVec 32) 0#32 = 0#1 := by decide
  have hz : IntOp.cmpi .ne (0#1 : BitVec 1) 0#1 = 0#1 := by decide
  unfold modw
  rw [hn, hr, hs, ht, hz]
  have : ∀ b : BitVec 1, IntOp.andi 0#1 b = 0#1 := by decide
  rw [this]
  rfl

/-! ## Arrays -/

variable {s : Shape}

/-- Division of an array by one number, rounded down, as both programs write it. -/
def floorDiv (hb : Sc.BroadcastsInDim s (![] : Fin 0 → Fin s.rank)) (c : IVec Sc 32) (x : IVec s 32) : IVec s 32 :=
  select
    (andi (cmpi .ne (signi x) (broadcastInDim s ![] hb (signi c)))
      (cmpi .ne (Host.remsi x (broadcastInDim s ![] hb c)) (broadcastInDim s ![] hb (constantI Sc 32 0#32))))
    (subi (Host.divsi x (broadcastInDim s ![] hb c)) (broadcastInDim s ![] hb (constantI Sc 32 1#32)))
    (Host.divsi x (broadcastInDim s ![] hb c))

/-- Entry by entry, it is the division of one word. -/
theorem floorDiv_apply (hb : Sc.BroadcastsInDim s (![] : Fin 0 → Fin s.rank)) (n : BitVec 32) (x : IVec s 32) (i : s.Idx) :
    floorDiv hb (constantI Sc 32 n) x i = divw n (x i) := rfl

/-- Remainder of an array by one number, as both programs write it. -/
def floorMod (hb : Sc.BroadcastsInDim s (![] : Fin 0 → Fin s.rank)) (c : IVec Sc 32) (x : IVec s 32) : IVec s 32 :=
  let n : IVec Sc 32 := select (cmpi .eq c (constantI Sc 32 0#32)) (constantI Sc 32 1#32) c
  let r : IVec s 32 := Host.remsi x (broadcastInDim s ![] hb n)
  select
    (andi
      (cmpi .ne (cmpi .slt r (broadcastInDim s ![] hb (constantI Sc 32 0#32)))
        (broadcastInDim s ![] hb (cmpi .slt n (constantI Sc 32 0#32))))
      (cmpi .ne r (broadcastInDim s ![] hb (constantI Sc 32 0#32))))
    (addi r (broadcastInDim s ![] hb n)) r

/-- Entry by entry, it is the remainder of one word. -/
theorem floorMod_apply (hb : Sc.BroadcastsInDim s (![] : Fin 0 → Fin s.rank)) (n : BitVec 32) (x : IVec s 32) (i : s.Idx) :
    floorMod hb (constantI Sc 32 n) x i = modw n (x i) := rfl

/-- A position returned by a selection of the greatest entries along axis `d` lies below that axis's length. -/
theorem topK_snd_lt {α : Type} {s : Shape} (t : Shape) (d : Nat) (gt : α → α → BitVec 1) (x : s.Idx → α)
    (h : s.Slices (fun _ => 0) t) (hd : d < s.rank) (hs : s.size ⟨d, hd⟩ ≤ 4294967296) (j : t.Idx) :
    ((Host.topK t d gt x h).2 j).toNat < s.size ⟨d, hd⟩ := by
  obtain ⟨k, hk⟩ : ∃ k : Fin (s.size ⟨d, hd⟩), (Host.topK t d gt x h).2 j = BitVec.ofNat 32 k.val := by
    unfold Host.topK Host.sort2 extractStridedSlice iotaInDim
    simp only [dif_pos hd]
    exact ⟨_, congrArg _ (congrArg Fin.val (Function.update_self ..))⟩
  rw [hk, BitVec.toNat_ofNat]
  exact lt_of_le_of_lt (Nat.mod_le _ _) k.isLt

end Cert.Decode
-- ==== Proof.KTail.lean ====
/- The kernel program's operations after its region, as functions of what the region leaves and of the arguments.

   After the region the program selects the greatest scores of each class and then of each batch entry, divides to
   get labels and grid coordinates, fetches the regression, rotation, height, size and velocity maps at the selected
   cells, assembles the boxes, and replaces the score of a box whose centre is out of range by zero. The program's
   text for this is cut into twenty consecutive windows. This module names each step as a function of arrays,
   shows for each window what it writes, and chains the windows into the three results. -/
module

public import proofs.«01_k».proof.Proof.Gen.KernelIdeal
public import proofs.«01_k».proof.Proof.Gen.KernelIdeal.Frame
public import Idealize.ShloMosaic.Lib.StableHlo.Run
public import Idealize.ShloMosaic.Lib.StableHlo.RunClose
public import Idealize.ShloMosaic.Lib.Pipeline.FrameSuffix
public import proofs.«01_k».proof.Proof.Take
public import proofs.«01_k».proof.Proof.Words

@[expose] public section

noncomputable section

namespace Cert.KernelIdeal.Tail

open Cert.KernelIdeal Cert.KernelIdeal.Gen Cert.Decode
open Idealize.ShloMosaic Idealize.ShloMosaic.TcCoe Idealize.SL.Sem Idealize.ShloMosaic.StableHlo

variable {F : FTy → Type} [FloatOps F]

/-! ## The steps as functions of arrays -/

/-- The greatest 500 scores of each class. -/
def vals (X : FVec F S4x2x262144 .f32) : FVec F S4x2x500 .f32 :=
  (Host.topK S4x2x500 2 (FloatOps.cmpfTotal .gt) X sliceFits_S4x2x262144_S4x2x500).1

/-- The cells those scores come from. -/
def cells (X : FVec F S4x2x262144 .f32) : IVec S4x2x500 32 :=
  (Host.topK S4x2x500 2 (FloatOps.cmpfTotal .gt) X sliceFits_S4x2x262144_S4x2x500).2

/-- The greatest 500 scores of a batch entry over both classes. -/
def top (X : FVec F S4x2x262144 .f32) : FVec F S4x500 .f32 :=
  (Host.topK S4x500 1 (FloatOps.cmpfTotal .gt) (shapeCast S4x1000 (vals X) shapeCasts_S4x2x500_S4x1000)
    sliceFits_S4x1000_S4x500).1

/-- Their places among the thousand candidates. -/
def pos (X : FVec F S4x2x262144 .f32) : IVec S4x500 32 :=
  (Host.topK S4x500 1 (FloatOps.cmpfTotal .gt) (shapeCast S4x1000 (vals X) shapeCasts_S4x2x500_S4x1000)
    sliceFits_S4x1000_S4x500).2

/-- The class labels. -/
def labels (X : FVec F S4x2x262144 .f32) : IVec S4x500 32 :=
  floorDiv bcast_S_S4x500 (constantI S_ 32 500#32) (pos X)

/-- The thousand candidates' cells read at given places. -/
def cellAt (c : IVec S4x1000 32) (p : IVec S4x500 32) : IVec S4x500 32 :=
  takeRow gather_S4x1000_S4x500x1_S4x500_n_1_0_0_1_2_11_wf reducesTo_S4x500x1_S4x500_d2 shapeCasts_S4x500_S4x500x1
    1000#32 999#32 2147483648#32 c p

/-- The selected cells. -/
def cell (X : FVec F S4x2x262144 .f32) : IVec S4x500 32 :=
  cellAt (shapeCast S4x1000 (cells X) shapeCasts_S4x2x500_S4x1000) (pos X)

/-- The row coordinates as floats. -/
def yOf (p : IVec S4x500 32) : FVec F S4x500 .f32 := sitofp .f32 (floorDiv bcast_S_S4x500 (constantI S_ 32 512#32) p)

/-- The column coordinates as floats. -/
def xOf (p : IVec S4x500 32) : FVec F S4x500 .f32 := sitofp .f32 (floorMod bcast_S_S4x500 (constantI S_ 32 512#32) p)

/-- The quiet fill value of a float fetch. -/
abbrev fill : F .f32 := FloatOps.ofBits .f32 0x7FC00000#32

/-- A two-channel map with the cells on one axis and the channels last. -/
def flat2 (x : FVec F S4x2x512x512 .f32) : FVec F S4x262144x2 .f32 :=
  shapeCast S4x262144x2 (transpose S4x512x512x2 [0, 2, 3, 1] x transposes_S4x2x512x512_S4x512x512x2_0_2_3_1)
    shapeCasts_S4x512x512x2_S4x262144x2

/-- A one-channel map with the cells on one axis. -/
def flat1 (x : FVec F S4x1x512x512 .f32) : FVec F S4x262144x1 .f32 :=
  shapeCast S4x262144x1 (transpose S4x512x512x1 [0, 2, 3, 1] x transposes_S4x1x512x512_S4x512x512x1_0_2_3_1)
    shapeCasts_S4x512x512x1_S4x262144x1

/-- A three-channel map with the cells on one axis and the channels last. -/
def flat3 (x : FVec F S4x3x512x512 .f32) : FVec F S4x262144x3 .f32 :=
  shapeCast S4x262144x3 (transpose S4x512x512x3 [0, 2, 3, 1] x transposes_S4x3x512x512_S4x512x512x3_0_2_3_1)
    shapeCasts_S4x512x512x3_S4x262144x3

/-- The cells as one column. -/
def col1 {α : Type} (p : S4x500.Idx → α) : S4x500x1.Idx → α := broadcastInDim S4x500x1 ![0, 1] bcast_S4x500_S4x500x1_0_1 p

/-- The cells repeated over two channels. -/
def col2 (p : IVec S4x500 32) : IVec S4x500x2 32 :=
  broadcastInDim S4x500x2 ![0, 1, 2] bcast_S4x500x1_S4x500x2_0_1_2 (col1 p)

/-- The cells repeated over three channels. -/
def col3 (p : IVec S4x500 32) : IVec S4x500x3 32 :=
  broadcastInDim S4x500x3 ![0, 1, 2] bcast_S4x500x1_S4x500x3_0_1_2 (col1 p)

/-- Two channels fetched at given cells. -/
def take2 (x : FVec F S4x262144x2 .f32) (p : IVec S4x500x2 32) : FVec F S4x500x2 .f32 :=
  takeChan gather_S4x262144x2_S4x500x2x1_S4x500x2_n_1_02_02_1_3_111_wf reducesTo_S4x500x2x1_S4x500x2_d3
    shapeCasts_S4x500x2_S4x500x2x1 262144#32 262143#32 fill x p

/-- Three channels fetched at given cells. -/
def take3 (x : FVec F S4x262144x3 .f32) (p : IVec S4x500x3 32) : FVec F S4x500x3 .f32 :=
  takeChan gather_S4x262144x3_S4x500x3x1_S4x500x3_n_1_02_02_1_3_111_wf reducesTo_S4x500x3x1_S4x500x3_d3
    shapeCasts_S4x500x3_S4x500x3x1 262144#32 262143#32 fill x p

/-- One channel fetched at given cells. -/
def take1 (x : FVec F S4x262144x1 .f32) (p : IVec S4x500x1 32) : FVec F S4x500x1 .f32 :=
  takeCol gather_S4x262144x1_S4x500x1_S4x500x1_2_1_0_0_1_2_111_wf reducesTo_S4x500x1_S4x500_d2 bcast_S4x500_S4x500x1_0_1
    262144#32 262143#32 fill x p

/-- The first of two channels. -/
def fst2 (x : FVec F S4x500x2 .f32) : FVec F S4x500x1 .f32 :=
  extractStridedSlice S4x500x1 ![0, 0, 0] x slices_S4x500x2_S4x500x1_0_0_0

/-- The second of two channels. -/
def snd2 (x : FVec F S4x500x2 .f32) : FVec F S4x500x1 .f32 :=
  extractStridedSlice S4x500x1 ![0, 0, 1] x slices_S4x500x2_S4x500x1_0_0_1

/-- A grid coordinate in metres: the scale 0.8, then the offset. -/
def metres (x : FVec F S4x500x1 .f32) : FVec F S4x500x1 .f32 :=
  addf (mulf x (broadcastInDim S4x500x1 ![] bcast_S_S4x500x1 (constant S_ .f32 0x3F4CCCCD#32)))
    (broadcastInDim S4x500x1 ![] bcast_S_S4x500x1 (constant S_ .f32 0xC24CCCCD#32))

/-- The nine columns of a box, put together. -/
def glue (x y h : FVec F S4x500x1 .f32) (d : FVec F S4x500x3 .f32) (r : FVec F S4x500x1 .f32) (v : FVec F S4x500x2 .f32) :
    FVec F S4x500x9 .f32 :=
  concatenate S4x500x9 2 [⟨S4x500x1, x⟩, ⟨S4x500x1, y⟩, ⟨S4x500x1, h⟩, ⟨S4x500x3, d⟩, ⟨S4x500x1, r⟩, ⟨S4x500x2, v⟩]
    concatenates_S4x500x1_S4x500x1_S4x500x1_S4x500x3_S4x500x1_S4x500x2_S4x500x9_d2

/-- Whether a box's centre lies in the range that is kept. -/
def inRange (b : FVec F S4x500x9 .f32) : IVec S4x500 1 :=
  andi
    (Host.reduce IntOp.andi
      (cmpf .oge (extractStridedSlice S4x500x3 ![0, 0, 0] b slices_S4x500x9_S4x500x3_0_0_0)
        (broadcastInDim S4x500x3 ![] bcast_S_S4x500x3 (constant S_ .f32 0xC61C4000#32)))
      (constantI S_ 1 1#1) reducesTo_S4x500x3_S4x500_d2 h_S_)
    (Host.reduce IntOp.andi
      (cmpf .ole (extractStridedSlice S4x500x3 ![0, 0, 0] b slices_S4x500x9_S4x500x3_0_0_0)
        (broadcastInDim S4x500x3 ![] bcast_S_S4x500x3 (constant S_ .f32 0x461C4000#32)))
      (constantI S_ 1 1#1) reducesTo_S4x500x3_S4x500_d2 h_S_)

/-- The boxes, from the flat scores and the five maps. -/
def boxes (X : FVec F S4x2x262144 .f32) (reg : FVec F S4x2x512x512 .f32) (hei : FVec F S4x1x512x512 .f32)
    (dim : FVec F S4x3x512x512 .f32) (rot vel : FVec F S4x2x512x512 .f32) : FVec F S4x500x9 .f32 :=
  glue
    (metres (addf (col1 (xOf (cell X))) (fst2 (take2 (flat2 reg) (col2 (cell X))))))
    (metres (addf (col1 (yOf (cell X))) (snd2 (take2 (flat2 reg) (col2 (cell X))))))
    (take1 (flat1 hei) (col1 (cell X)))
    (Host.exp (take3 (flat3 dim) (col3 (cell X))))
    (Host.atan2 (fst2 (take2 (flat2 rot) (col2 (cell X)))) (snd2 (take2 (flat2 rot) (col2 (cell X)))))
    (take2 (flat2 vel) (col2 (cell X)))

/-- The scores: a selected score where its box's centre is in range, zero elsewhere. -/
def scores (X : FVec F S4x2x262144 .f32) (b : FVec F S4x500x9 .f32) : FVec F S4x500 .f32 :=
  select (inRange b) (top X) (broadcastInDim S4x500 ![] bcast_S_S4x500 (constant S_ .f32 0x00000000#32))

/-! ## The windows -/

/-- The buffer contents after window 0. -/
def st0 (V : Valuation τ sig (Elt F)) : Valuation τ sig (Elt F) := after Gen.hostOps1 V

/-- Window 0 leaves every buffer it does not write. -/
theorem st0_keep (V : Valuation τ sig (Elt F)) (r : Ref sig .tc) (h : r ∉ Gen.hostOps1_W) :
    st0 V (no_index (Proc.devRef .tc r)) = V (Proc.devRef .tc r) :=
  after_of_writes_sub Gen.hostOps1 _ Gen.hostOps1_writes h

set_option maxRecDepth 8192 in
set_option maxHeartbeats 2000000 in
/-- The cells of each class. -/
theorem st0_indices (V : Valuation τ sig (Elt F)) :
    st0 V (no_index (Proc.devRef .tc main_indices)) = cells (shapeCast S4x2x262144 (V (Proc.devRef .tc main_v1)) shapeCasts_S8x512x512_S4x2x262144) := by
  unfold st0
  simp only [Gen.hostOps1, TRef.binary, TRef.nullary, TRef.reshape, TRef.ternary, TRef.unary, TRef.toBuf, TRef.ofBuf, cast_eq]
  after_results_simp
  all_goals rfl

set_option maxRecDepth 8192 in
set_option maxHeartbeats 2000000 in
/-- The selected scores. -/
theorem st0_values_0 (V : Valuation τ sig (Elt F)) :
    st0 V (no_index (Proc.devRef .tc main_values_0)) = top (shapeCast S4x2x262144 (V (Proc.devRef .tc main_v1)) shapeCasts_S8x512x512_S4x2x262144) := by
  unfold st0
  simp only [Gen.hostOps1, TRef.binary, TRef.nullary, TRef.reshape, TRef.ternary, TRef.unary, TRef.toBuf, TRef.ofBuf, cast_eq]
  after_results_simp
  all_goals rfl

set_option maxRecDepth 8192 in
set_option maxHeartbeats 2000000 in
/-- The selected places. -/
theorem st0_indices_1 (V : Valuation τ sig (Elt F)) :
    st0 V (no_index (Proc.devRef .tc main_indices_1)) = pos (shapeCast S4x2x262144 (V (Proc.devRef .tc main_v1)) shapeCasts_S8x512x512_S4x2x262144) := by
  unfold st0
  simp only [Gen.hostOps1, TRef.binary, TRef.nullary, TRef.reshape, TRef.ternary, TRef.unary, TRef.toBuf, TRef.ofBuf, cast_eq]
  after_results_simp
  all_goals rfl

set_option maxRecDepth 8192 in
set_option maxHeartbeats 2000000 in
/-- The divisor of the labels. -/
theorem st0_c (V : Valuation τ sig (Elt F)) :
    st0 V (no_index (Proc.devRef .tc main_c)) = constantI S_ 32 500#32 := by
  unfold st0
  simp only [Gen.hostOps1, TRef.binary, TRef.nullary, TRef.reshape, TRef.ternary, TRef.unary, TRef.toBuf, TRef.ofBuf, cast_eq]
  after_results_simp
  all_goals rfl

/-- The buffer contents after window 1. -/
def st1 (V : Valuation τ sig (Elt F)) : Valuation τ sig (Elt F) := after Gen.hostOps1_1 V

/-- Window 1 leaves every buffer it does not write. -/
theorem st1_keep (V : Valuation τ sig (Elt F)) (r : Ref sig .tc) (h : r ∉ Gen.hostOps1_1_W) :
    st1 V (no_index (Proc.devRef .tc r)) = V (Proc.devRef .tc r) :=
  after_of_writes_sub Gen.hostOps1_1 _ Gen.hostOps1_1_writes h

set_option maxRecDepth 8192 in
set_option maxHeartbeats 2000000 in
/-- The labels. -/
theorem st1_v4 (V : Valuation τ sig (Elt F)) :
    st1 V (no_index (Proc.devRef .tc main_v4)) = floorDiv bcast_S_S4x500 (V (Proc.devRef .tc main_c)) (V (Proc.devRef .tc main_indices_1)) := by
  unfold st1
  simp only [Gen.hostOps1_1, TRef.binary, TRef.nullary, TRef.reshape, TRef.ternary, TRef.unary, TRef.toBuf, TRef.ofBuf, cast_eq]
  after_results_simp
  all_goals rfl

/-- The buffer contents after window 2. -/
def st2 (V : Valuation τ sig (Elt F)) : Valuation τ sig (Elt F) := after Gen.hostOps1_2 V

/-- Window 2 leaves every buffer it does not write. -/
theorem st2_keep (V : Valuation τ sig (Elt F)) (r : Ref sig .tc) (h : r ∉ Gen.hostOps1_2_W) :
    st2 V (no_index (Proc.devRef .tc r)) = V (Proc.devRef .tc r) :=
  after_of_writes_sub Gen.hostOps1_2 _ Gen.hostOps1_2_writes h

set_option maxRecDepth 8192 in
set_option maxHeartbeats 2000000 in
/-- The thousand candidates' cells. -/
theorem st2_v5 (V : Valuation τ sig (Elt F)) :
    st2 V (no_index (Proc.devRef .tc main_v5)) = shapeCast S4x1000 (V (Proc.devRef .tc main_indices)) shapeCasts_S4x2x500_S4x1000 := by
  unfold st2
  simp only [Gen.hostOps1_2, TRef.binary, TRef.nullary, TRef.reshape, TRef.ternary, TRef.unary, TRef.toBuf, TRef.ofBuf, cast_eq]
  after_results_simp
  all_goals rfl

/-- The buffer contents after window 3. -/
def st3 (V : Valuation τ sig (Elt F)) : Valuation τ sig (Elt F) := after Gen.hostOps1_3 V

/-- Window 3 leaves every buffer it does not write. -/
theorem st3_keep (V : Valuation τ sig (Elt F)) (r : Ref sig .tc) (h : r ∉ Gen.hostOps1_3_W) :
    st3 V (no_index (Proc.devRef .tc r)) = V (Proc.devRef .tc r) :=
  after_of_writes_sub Gen.hostOps1_3 _ Gen.hostOps1_3_writes h

set_option maxRecDepth 8192 in
set_option maxHeartbeats 2000000 in
/-- The selected cells. -/
theorem st3_v6 (V : Valuation τ sig (Elt F)) :
    st3 V (no_index (Proc.devRef .tc main_v6)) = cellAt (V (Proc.devRef .tc main_v5)) (V (Proc.devRef .tc main_indices_1)) := by
  unfold st3
  simp only [Gen.hostOps1_3, TRef.binary, TRef.nullary, TRef.reshape, TRef.ternary, TRef.unary, TRef.toBuf, TRef.ofBuf, cast_eq]
  after_results_simp
  all_goals rfl

/-- The buffer contents after window 4. -/
def st4 (V : Valuation τ sig (Elt F)) : Valuation τ sig (Elt F) := after Gen.hostOps1_4 V

/-- Window 4 leaves every buffer it does not write. -/
theorem st4_keep (V : Valuation τ sig (Elt F)) (r : Ref sig .tc) (h : r ∉ Gen.hostOps1_4_W) :
    st4 V (no_index (Proc.devRef .tc r)) = V (Proc.devRef .tc r) :=
  after_of_writes_sub Gen.hostOps1_4 _ Gen.hostOps1_4_writes h

set_option maxRecDepth 8192 in
set_option maxHeartbeats 2000000 in
/-- The grid width. -/
theorem st4_c_2 (V : Valuation τ sig (Elt F)) :
    st4 V (no_index (Proc.devRef .tc main_c_2)) = constantI S_ 32 512#32 := by
  unfold st4
  simp only [Gen.hostOps1_4, TRef.binary, TRef.nullary, TRef.reshape, TRef.ternary, TRef.unary, TRef.toBuf, TRef.ofBuf, cast_eq]
  after_results_simp
  all_goals rfl

/-- The buffer contents after window 5. -/
def st5 (V : Valuation τ sig (Elt F)) : Valuation τ sig (Elt F) := after Gen.hostOps1_5 V

/-- Window 5 leaves every buffer it does not write. -/
theorem st5_keep (V : Valuation τ sig (Elt F)) (r : Ref sig .tc) (h : r ∉ Gen.hostOps1_5_W) :
    st5 V (no_index (Proc.devRef .tc r)) = V (Proc.devRef .tc r) :=
  after_of_writes_sub Gen.hostOps1_5 _ Gen.hostOps1_5_writes h

set_option maxRecDepth 8192 in
set_option maxHeartbeats 2000000 in
/-- The rows. -/
theorem st5_v7 (V : Valuation τ sig (Elt F)) :
    st5 V (no_index (Proc.devRef .tc main_v7)) = floorDiv bcast_S_S4x500 (V (Proc.devRef .tc main_c_2)) (V (Proc.devRef .tc main_v6)) := by
  unfold st5
  simp only [Gen.hostOps1_5, TRef.binary, TRef.nullary, TRef.reshape, TRef.ternary, TRef.unary, TRef.toBuf, TRef.ofBuf, cast_eq]
  after_results_simp
  all_goals rfl

/-- The buffer contents after window 6. -/
def st6 (V : Valuation τ sig (Elt F)) : Valuation τ sig (Elt F) := after Gen.hostOps1_6 V

/-- Window 6 leaves every buffer it does not write. -/
theorem st6_keep (V : Valuation τ sig (Elt F)) (r : Ref sig .tc) (h : r ∉ Gen.hostOps1_6_W) :
    st6 V (no_index (Proc.devRef .tc r)) = V (Proc.devRef .tc r) :=
  after_of_writes_sub Gen.hostOps1_6 _ Gen.hostOps1_6_writes h

set_option maxRecDepth 8192 in
set_option maxHeartbeats 2000000 in
/-- The rows as floats. -/
theorem st6_v8 (V : Valuation τ sig (Elt F)) :
    st6 V (no_index (Proc.devRef .tc main_v8)) = sitofp .f32 (V (Proc.devRef .tc main_v7)) := by
  unfold st6
  simp only [Gen.hostOps1_6, TRef.binary, TRef.nullary, TRef.reshape, TRef.ternary, TRef.unary, TRef.toBuf, TRef.ofBuf, cast_eq]
  after_results_simp
  all_goals rfl

set_option maxRecDepth 8192 in
set_option maxHeartbeats 2000000 in
/-- The grid width. -/
theorem st6_c_3 (V : Valuation τ sig (Elt F)) :
    st6 V (no_index (Proc.devRef .tc main_c_3)) = constantI S_ 32 512#32 := by
  unfold st6
  simp only [Gen.hostOps1_6, TRef.binary, TRef.nullary, TRef.reshape, TRef.ternary, TRef.unary, TRef.toBuf, TRef.ofBuf, cast_eq]
  after_results_simp
  all_goals rfl

/-- The buffer contents after window 7. -/
def st7 (V : Valuation τ sig (Elt F)) : Valuation τ sig (Elt F) := after Gen.hostOps1_7 V

/-- Window 7 leaves every buffer it does not write. -/
theorem st7_keep (V : Valuation τ sig (Elt F)) (r : Ref sig .tc) (h : r ∉ Gen.hostOps1_7_W) :
    st7 V (no_index (Proc.devRef .tc r)) = V (Proc.devRef .tc r) :=
  after_of_writes_sub Gen.hostOps1_7 _ Gen.hostOps1_7_writes h

set_option maxRecDepth 8192 in
set_option maxHeartbeats 2000000 in
/-- The columns. -/
theorem st7_v9 (V : Valuation τ sig (Elt F)) :
    st7 V (no_index (Proc.devRef .tc main_v9)) = floorMod bcast_S_S4x500 (V (Proc.devRef .tc main_c_3)) (V (Proc.devRef .tc main_v6)) := by
  unfold st7
  simp only [Gen.hostOps1_7, TRef.binary, TRef.nullary, TRef.reshape, TRef.ternary, TRef.unary, TRef.toBuf, TRef.ofBuf, cast_eq]
  after_results_simp
  all_goals rfl

/-- The buffer contents after window 8. -/
def st8 (V : Valuation τ sig (Elt F)) : Valuation τ sig (Elt F) := after Gen.hostOps1_8 V

/-- Window 8 leaves every buffer it does not write. -/
theorem st8_keep (V : Valuation τ sig (Elt F)) (r : Ref sig .tc) (h : r ∉ Gen.hostOps1_8_W) :
    st8 V (no_index (Proc.devRef .tc r)) = V (Proc.devRef .tc r) :=
  after_of_writes_sub Gen.hostOps1_8 _ Gen.hostOps1_8_writes h

set_option maxRecDepth 8192 in
set_option maxHeartbeats 2000000 in
/-- The columns as floats. -/
theorem st8_v10 (V : Valuation τ sig (Elt F)) :
    st8 V (no_index (Proc.devRef .tc main_v10)) = sitofp .f32 (V (Proc.devRef .tc main_v9)) := by
  unfold st8
  simp only [Gen.hostOps1_8, TRef.binary, TRef.nullary, TRef.reshape, TRef.ternary, TRef.unary, TRef.toBuf, TRef.ofBuf, cast_eq]
  after_results_simp
  all_goals rfl

set_option maxRecDepth 8192 in
set_option maxHeartbeats 2000000 in
/-- The regression map, flat. -/
theorem st8_v12 (V : Valuation τ sig (Elt F)) :
    st8 V (no_index (Proc.devRef .tc main_v12)) = flat2 (V (Proc.devRef .tc main_arg1)) := by
  unfold st8
  simp only [Gen.hostOps1_8, TRef.binary, TRef.nullary, TRef.reshape, TRef.ternary, TRef.unary, TRef.toBuf, TRef.ofBuf, cast_eq]
  after_results_simp
  all_goals rfl

set_option maxRecDepth 8192 in
set_option maxHeartbeats 2000000 in
/-- The cells over two channels. -/
theorem st8_v14 (V : Valuation τ sig (Elt F)) :
    st8 V (no_index (Proc.devRef .tc main_v14)) = col2 (V (Proc.devRef .tc main_v6)) := by
  unfold st8
  simp only [Gen.hostOps1_8, TRef.binary, TRef.nullary, TRef.reshape, TRef.ternary, TRef.unary, TRef.toBuf, TRef.ofBuf, cast_eq]
  after_results_simp
  all_goals rfl

/-- The buffer contents after window 9. -/
def st9 (V : Valuation τ sig (Elt F)) : Valuation τ sig (Elt F) := after Gen.hostOps1_9 V

/-- Window 9 leaves every buffer it does not write. -/
theorem st9_keep (V : Valuation τ sig (Elt F)) (r : Ref sig .tc) (h : r ∉ Gen.hostOps1_9_W) :
    st9 V (no_index (Proc.devRef .tc r)) = V (Proc.devRef .tc r) :=
  after_of_writes_sub Gen.hostOps1_9 _ Gen.hostOps1_9_writes h

set_option maxRecDepth 8192 in
set_option maxHeartbeats 2000000 in
/-- The regression at the cells. -/
theorem st9_v15 (V : Valuation τ sig (Elt F)) :
    st9 V (no_index (Proc.devRef .tc main_v15)) = take2 (V (Proc.devRef .tc main_v12)) (V (Proc.devRef .tc main_v14)) := by
  unfold st9
  simp only [Gen.hostOps1_9, TRef.binary, TRef.nullary, TRef.reshape, TRef.ternary, TRef.unary, TRef.toBuf, TRef.ofBuf, cast_eq]
  after_results_simp
  all_goals rfl

/-- The buffer contents after window 10. -/
def st10 (V : Valuation τ sig (Elt F)) : Valuation τ sig (Elt F) := after Gen.hostOps1_10 V

/-- Window 10 leaves every buffer it does not write. -/
theorem st10_keep (V : Valuation τ sig (Elt F)) (r : Ref sig .tc) (h : r ∉ Gen.hostOps1_10_W) :
    st10 V (no_index (Proc.devRef .tc r)) = V (Proc.devRef .tc r) :=
  after_of_writes_sub Gen.hostOps1_10 _ Gen.hostOps1_10_writes h

set_option maxRecDepth 8192 in
set_option maxHeartbeats 2000000 in
/-- The horizontal centre on the grid. -/
theorem st10_v18 (V : Valuation τ sig (Elt F)) :
    st10 V (no_index (Proc.devRef .tc main_v18)) = addf (col1 (V (Proc.devRef .tc main_v10))) (fst2 (V (Proc.devRef .tc main_v15))) := by
  unfold st10
  simp only [Gen.hostOps1_10, TRef.binary, TRef.nullary, TRef.reshape, TRef.ternary, TRef.unary, TRef.toBuf, TRef.ofBuf, cast_eq]
  after_results_simp
  all_goals rfl

set_option maxRecDepth 8192 in
set_option maxHeartbeats 2000000 in
/-- The vertical centre on the grid. -/
theorem st10_v21 (V : Valuation τ sig (Elt F)) :
    st10 V (no_index (Proc.devRef .tc main_v21)) = addf (col1 (V (Proc.devRef .tc main_v8))) (snd2 (V (Proc.devRef .tc main_v15))) := by
  unfold st10
  simp only [Gen.hostOps1_10, TRef.binary, TRef.nullary, TRef.reshape, TRef.ternary, TRef.unary, TRef.toBuf, TRef.ofBuf, cast_eq]
  after_results_simp
  all_goals rfl

set_option maxRecDepth 8192 in
set_option maxHeartbeats 2000000 in
/-- The rotation map, flat. -/
theorem st10_v23 (V : Valuation τ sig (Elt F)) :
    st10 V (no_index (Proc.devRef .tc main_v23)) = flat2 (V (Proc.devRef .tc main_arg4)) := by
  unfold st10
  simp only [Gen.hostOps1_10, TRef.binary, TRef.nullary, TRef.reshape, TRef.ternary, TRef.unary, TRef.toBuf, TRef.ofBuf, cast_eq]
  after_results_simp
  all_goals rfl

set_option maxRecDepth 8192 in
set_option maxHeartbeats 2000000 in
/-- The cells over two channels. -/
theorem st10_v25 (V : Valuation τ sig (Elt F)) :
    st10 V (no_index (Proc.devRef .tc main_v25)) = col2 (V (Proc.devRef .tc main_v6)) := by
  unfold st10
  simp only [Gen.hostOps1_10, TRef.binary, TRef.nullary, TRef.reshape, TRef.ternary, TRef.unary, TRef.toBuf, TRef.ofBuf, cast_eq]
  after_results_simp
  all_goals rfl

/-- The buffer contents after window 11. -/
def st11 (V : Valuation τ sig (Elt F)) : Valuation τ sig (Elt F) := after Gen.hostOps1_11 V

/-- Window 11 leaves every buffer it does not write. -/
theorem st11_keep (V : Valuation τ sig (Elt F)) (r : Ref sig .tc) (h : r ∉ Gen.hostOps1_11_W) :
    st11 V (no_index (Proc.devRef .tc r)) = V (Proc.devRef .tc r) :=
  after_of_writes_sub Gen.hostOps1_11 _ Gen.hostOps1_11_writes h

set_option maxRecDepth 8192 in
set_option maxHeartbeats 2000000 in
/-- The rotation at the cells. -/
theorem st11_v26 (V : Valuation τ sig (Elt F)) :
    st11 V (no_index (Proc.devRef .tc main_v26)) = take2 (V (Proc.devRef .tc main_v23)) (V (Proc.devRef .tc main_v25)) := by
  unfold st11
  simp only [Gen.hostOps1_11, TRef.binary, TRef.nullary, TRef.reshape, TRef.ternary, TRef.unary, TRef.toBuf, TRef.ofBuf, cast_eq]
  after_results_simp
  all_goals rfl

/-- The buffer contents after window 12. -/
def st12 (V : Valuation τ sig (Elt F)) : Valuation τ sig (Elt F) := after Gen.hostOps1_12 V

/-- Window 12 leaves every buffer it does not write. -/
theorem st12_keep (V : Valuation τ sig (Elt F)) (r : Ref sig .tc) (h : r ∉ Gen.hostOps1_12_W) :
    st12 V (no_index (Proc.devRef .tc r)) = V (Proc.devRef .tc r) :=
  after_of_writes_sub Gen.hostOps1_12 _ Gen.hostOps1_12_writes h

set_option maxRecDepth 8192 in
set_option maxHeartbeats 2000000 in
/-- The angle. -/
theorem st12_v29 (V : Valuation τ sig (Elt F)) :
    st12 V (no_index (Proc.devRef .tc main_v29)) = Host.atan2 (fst2 (V (Proc.devRef .tc main_v26))) (snd2 (V (Proc.devRef .tc main_v26))) := by
  unfold st12
  simp only [Gen.hostOps1_12, TRef.binary, TRef.nullary, TRef.reshape, TRef.ternary, TRef.unary, TRef.toBuf, TRef.ofBuf, cast_eq]
  after_results_simp
  all_goals rfl

set_option maxRecDepth 8192 in
set_option maxHeartbeats 2000000 in
/-- The height map, flat. -/
theorem st12_v31 (V : Valuation τ sig (Elt F)) :
    st12 V (no_index (Proc.devRef .tc main_v31)) = flat1 (V (Proc.devRef .tc main_arg2)) := by
  unfold st12
  simp only [Gen.hostOps1_12, TRef.binary, TRef.nullary, TRef.reshape, TRef.ternary, TRef.unary, TRef.toBuf, TRef.ofBuf, cast_eq]
  after_results_simp
  all_goals rfl

set_option maxRecDepth 8192 in
set_option maxHeartbeats 2000000 in
/-- The cells as a column. -/
theorem st12_v32 (V : Valuation τ sig (Elt F)) :
    st12 V (no_index (Proc.devRef .tc main_v32)) = col1 (V (Proc.devRef .tc main_v6)) := by
  unfold st12
  simp only [Gen.hostOps1_12, TRef.binary, TRef.nullary, TRef.reshape, TRef.ternary, TRef.unary, TRef.toBuf, TRef.ofBuf, cast_eq]
  after_results_simp
  all_goals rfl

/-- The buffer contents after window 13. -/
def st13 (V : Valuation τ sig (Elt F)) : Valuation τ sig (Elt F) := after Gen.hostOps1_13 V

/-- Window 13 leaves every buffer it does not write. -/
theorem st13_keep (V : Valuation τ sig (Elt F)) (r : Ref sig .tc) (h : r ∉ Gen.hostOps1_13_W) :
    st13 V (no_index (Proc.devRef .tc r)) = V (Proc.devRef .tc r) :=
  after_of_writes_sub Gen.hostOps1_13 _ Gen.hostOps1_13_writes h

set_option maxRecDepth 8192 in
set_option maxHeartbeats 2000000 in
/-- The height at the cells. -/
theorem st13_v33 (V : Valuation τ sig (Elt F)) :
    st13 V (no_index (Proc.devRef .tc main_v33)) = take1 (V (Proc.devRef .tc main_v31)) (V (Proc.devRef .tc main_v32)) := by
  unfold st13
  simp only [Gen.hostOps1_13, TRef.binary, TRef.nullary, TRef.reshape, TRef.ternary, TRef.unary, TRef.toBuf, TRef.ofBuf, cast_eq]
  after_results_simp
  all_goals rfl

/-- The buffer contents after window 14. -/
def st14 (V : Valuation τ sig (Elt F)) : Valuation τ sig (Elt F) := after Gen.hostOps1_14 V

/-- Window 14 leaves every buffer it does not write. -/
theorem st14_keep (V : Valuation τ sig (Elt F)) (r : Ref sig .tc) (h : r ∉ Gen.hostOps1_14_W) :
    st14 V (no_index (Proc.devRef .tc r)) = V (Proc.devRef .tc r) :=
  after_of_writes_sub Gen.hostOps1_14 _ Gen.hostOps1_14_writes h

set_option maxRecDepth 8192 in
set_option maxHeartbeats 2000000 in
/-- The size map, flat. -/
theorem st14_v35 (V : Valuation τ sig (Elt F)) :
    st14 V (no_index (Proc.devRef .tc main_v35)) = flat3 (V (Proc.devRef .tc main_arg3)) := by
  unfold st14
  simp only [Gen.hostOps1_14, TRef.binary, TRef.nullary, TRef.reshape, TRef.ternary, TRef.unary, TRef.toBuf, TRef.ofBuf, cast_eq]
  after_results_simp
  all_goals rfl

set_option maxRecDepth 8192 in
set_option maxHeartbeats 2000000 in
/-- The cells over three channels. -/
theorem st14_v37 (V : Valuation τ sig (Elt F)) :
    st14 V (no_index (Proc.devRef .tc main_v37)) = col3 (V (Proc.devRef .tc main_v6)) := by
  unfold st14
  simp only [Gen.hostOps1_14, TRef.binary, TRef.nullary, TRef.reshape, TRef.ternary, TRef.unary, TRef.toBuf, TRef.ofBuf, cast_eq]
  after_results_simp
  all_goals rfl

/-- The buffer contents after window 15. -/
def st15 (V : Valuation τ sig (Elt F)) : Valuation τ sig (Elt F) := after Gen.hostOps1_15 V

/-- Window 15 leaves every buffer it does not write. -/
theorem st15_keep (V : Valuation τ sig (Elt F)) (r : Ref sig .tc) (h : r ∉ Gen.hostOps1_15_W) :
    st15 V (no_index (Proc.devRef .tc r)) = V (Proc.devRef .tc r) :=
  after_of_writes_sub Gen.hostOps1_15 _ Gen.hostOps1_15_writes h

set_option maxRecDepth 8192 in
set_option maxHeartbeats 2000000 in
/-- The logarithms of the sizes at the cells. -/
theorem st15_v38 (V : Valuation τ sig (Elt F)) :
    st15 V (no_index (Proc.devRef .tc main_v38)) = take3 (V (Proc.devRef .tc main_v35)) (V (Proc.devRef .tc main_v37)) := by
  unfold st15
  simp only [Gen.hostOps1_15, TRef.binary, TRef.nullary, TRef.reshape, TRef.ternary, TRef.unary, TRef.toBuf, TRef.ofBuf, cast_eq]
  after_results_simp
  all_goals rfl

/-- The buffer contents after window 16. -/
def st16 (V : Valuation τ sig (Elt F)) : Valuation τ sig (Elt F) := after Gen.hostOps1_16 V

/-- Window 16 leaves every buffer it does not write. -/
theorem st16_keep (V : Valuation τ sig (Elt F)) (r : Ref sig .tc) (h : r ∉ Gen.hostOps1_16_W) :
    st16 V (no_index (Proc.devRef .tc r)) = V (Proc.devRef .tc r) :=
  after_of_writes_sub Gen.hostOps1_16 _ Gen.hostOps1_16_writes h

set_option maxRecDepth 8192 in
set_option maxHeartbeats 2000000 in
/-- The sizes. -/
theorem st16_v39 (V : Valuation τ sig (Elt F)) :
    st16 V (no_index (Proc.devRef .tc main_v39)) = Host.exp (V (Proc.devRef .tc main_v38)) := by
  unfold st16
  simp only [Gen.hostOps1_16, TRef.binary, TRef.nullary, TRef.reshape, TRef.ternary, TRef.unary, TRef.toBuf, TRef.ofBuf, cast_eq]
  after_results_simp
  all_goals rfl

set_option maxRecDepth 8192 in
set_option maxHeartbeats 2000000 in
/-- The velocity map, flat. -/
theorem st16_v41 (V : Valuation τ sig (Elt F)) :
    st16 V (no_index (Proc.devRef .tc main_v41)) = flat2 (V (Proc.devRef .tc main_arg5)) := by
  unfold st16
  simp only [Gen.hostOps1_16, TRef.binary, TRef.nullary, TRef.reshape, TRef.ternary, TRef.unary, TRef.toBuf, TRef.ofBuf, cast_eq]
  after_results_simp
  all_goals rfl

set_option maxRecDepth 8192 in
set_option maxHeartbeats 2000000 in
/-- The cells over two channels. -/
theorem st16_v43 (V : Valuation τ sig (Elt F)) :
    st16 V (no_index (Proc.devRef .tc main_v43)) = col2 (V (Proc.devRef .tc main_v6)) := by
  unfold st16
  simp only [Gen.hostOps1_16, TRef.binary, TRef.nullary, TRef.reshape, TRef.ternary, TRef.unary, TRef.toBuf, TRef.ofBuf, cast_eq]
  after_results_simp
  all_goals rfl

/-- The buffer contents after window 17. -/
def st17 (V : Valuation τ sig (Elt F)) : Valuation τ sig (Elt F) := after Gen.hostOps1_17 V

/-- Window 17 leaves every buffer it does not write. -/
theorem st17_keep (V : Valuation τ sig (Elt F)) (r : Ref sig .tc) (h : r ∉ Gen.hostOps1_17_W) :
    st17 V (no_index (Proc.devRef .tc r)) = V (Proc.devRef .tc r) :=
  after_of_writes_sub Gen.hostOps1_17 _ Gen.hostOps1_17_writes h

set_option maxRecDepth 8192 in
set_option maxHeartbeats 2000000 in
/-- The velocity at the cells. -/
theorem st17_v44 (V : Valuation τ sig (Elt F)) :
    st17 V (no_index (Proc.devRef .tc main_v44)) = take2 (V (Proc.devRef .tc main_v41)) (V (Proc.devRef .tc main_v43)) := by
  unfold st17
  simp only [Gen.hostOps1_17, TRef.binary, TRef.nullary, TRef.reshape, TRef.ternary, TRef.unary, TRef.toBuf, TRef.ofBuf, cast_eq]
  after_results_simp
  all_goals rfl

/-- The buffer contents after window 18. -/
def st18 (V : Valuation τ sig (Elt F)) : Valuation τ sig (Elt F) := after Gen.hostOps1_18 V

/-- Window 18 leaves every buffer it does not write. -/
theorem st18_keep (V : Valuation τ sig (Elt F)) (r : Ref sig .tc) (h : r ∉ Gen.hostOps1_18_W) :
    st18 V (no_index (Proc.devRef .tc r)) = V (Proc.devRef .tc r) :=
  after_of_writes_sub Gen.hostOps1_18 _ Gen.hostOps1_18_writes h

set_option maxRecDepth 8192 in
set_option maxHeartbeats 2000000 in
/-- The boxes. -/
theorem st18_v53 (V : Valuation τ sig (Elt F)) :
    st18 V (no_index (Proc.devRef .tc main_v53)) = glue (metres (V (Proc.devRef .tc main_v18))) (metres (V (Proc.devRef .tc main_v21))) (V (Proc.devRef .tc main_v33)) (V (Proc.devRef .tc main_v39)) (V (Proc.devRef .tc main_v29)) (V (Proc.devRef .tc main_v44)) := by
  unfold st18
  simp only [Gen.hostOps1_18, TRef.binary, TRef.nullary, TRef.reshape, TRef.ternary, TRef.unary, TRef.toBuf, TRef.ofBuf, cast_eq]
  after_results_simp
  try dsimp only [Matrix.cons_val]
  try after_results_simp
  all_goals rfl

set_option maxRecDepth 8192 in
set_option maxHeartbeats 2000000 in
/-- The range test. -/
theorem st18_v62 (V : Valuation τ sig (Elt F)) :
    st18 V (no_index (Proc.devRef .tc main_v62)) = inRange (glue (metres (V (Proc.devRef .tc main_v18))) (metres (V (Proc.devRef .tc main_v21))) (V (Proc.devRef .tc main_v33)) (V (Proc.devRef .tc main_v39)) (V (Proc.devRef .tc main_v29)) (V (Proc.devRef .tc main_v44))) := by
  unfold st18
  simp only [Gen.hostOps1_18, TRef.binary, TRef.nullary, TRef.reshape, TRef.ternary, TRef.unary, TRef.toBuf, TRef.ofBuf, cast_eq]
  after_results_simp
  try dsimp only [Matrix.cons_val]
  try after_results_simp
  all_goals rfl

set_option maxRecDepth 8192 in
set_option maxHeartbeats 2000000 in
/-- The score of a box out of range. -/
theorem st18_cst_11 (V : Valuation τ sig (Elt F)) :
    st18 V (no_index (Proc.devRef .tc main_cst_11)) = constant S_ .f32 0x00000000#32 := by
  unfold st18
  simp only [Gen.hostOps1_18, TRef.binary, TRef.nullary, TRef.reshape, TRef.ternary, TRef.unary, TRef.toBuf, TRef.ofBuf, cast_eq]
  after_results_simp
  all_goals rfl

/-- The buffer contents after window 19. -/
def st19 (V : Valuation τ sig (Elt F)) : Valuation τ sig (Elt F) := after Gen.hostOps1_19 V

/-- Window 19 leaves every buffer it does not write. -/
theorem st19_keep (V : Valuation τ sig (Elt F)) (r : Ref sig .tc) (h : r ∉ Gen.hostOps1_19_W) :
    st19 V (no_index (Proc.devRef .tc r)) = V (Proc.devRef .tc r) :=
  after_of_writes_sub Gen.hostOps1_19 _ Gen.hostOps1_19_writes h

set_option maxRecDepth 8192 in
set_option maxHeartbeats 2000000 in
/-- The scores. -/
theorem st19_v63 (V : Valuation τ sig (Elt F)) :
    st19 V (no_index (Proc.devRef .tc main_v63)) = select (V (Proc.devRef .tc main_v62)) (V (Proc.devRef .tc main_values_0)) (broadcastInDim S4x500 ![] bcast_S_S4x500 (V (Proc.devRef .tc main_cst_11))) := by
  unfold st19
  simp only [Gen.hostOps1_19, TRef.binary, TRef.nullary, TRef.reshape, TRef.ternary, TRef.unary, TRef.toBuf, TRef.ofBuf, cast_eq]
  after_results_simp
  all_goals rfl

/-! ## The windows one after another -/

/-- The buffer contents after all twenty windows. -/
def all (V : Valuation τ sig (Elt F)) : Valuation τ sig (Elt F) :=
  st19 (st18 (st17 (st16 (st15 (st14 (st13 (st12 (st11 (st10 (st9 (st8 (st7 (st6 (st5 (st4 (st3 (st2 (st1 (st0 V)))))))))))))))))))

/-- The later operations' contents are the windows' contents, one after another. -/
theorem after_all (V : Valuation τ sig (Elt F)) :
    after (List.flatten [Gen.hostOps1, Gen.hostOps1_1, Gen.hostOps1_2, Gen.hostOps1_3, Gen.hostOps1_4, Gen.hostOps1_5, Gen.hostOps1_6, Gen.hostOps1_7, Gen.hostOps1_8, Gen.hostOps1_9, Gen.hostOps1_10, Gen.hostOps1_11, Gen.hostOps1_12, Gen.hostOps1_13, Gen.hostOps1_14, Gen.hostOps1_15, Gen.hostOps1_16, Gen.hostOps1_17, Gen.hostOps1_18, Gen.hostOps1_19]) V = all V := by
  simp only [List.flatten_cons, List.flatten_nil, List.append_nil, after_append]
  rfl

/-- The labels. -/
theorem all_v4 (V : Valuation τ sig (Elt F)) : all V (Proc.devRef .tc main_v4) = labels (shapeCast S4x2x262144 (V (Proc.devRef .tc main_v1)) shapeCasts_S8x512x512_S4x2x262144) := by
  unfold all labels
  simp (disch := decide) only [st0_keep, st1_keep, st2_keep, st3_keep, st4_keep, st5_keep, st6_keep, st7_keep, st8_keep, st9_keep, st10_keep, st11_keep, st12_keep, st13_keep, st14_keep, st15_keep, st16_keep, st17_keep, st18_keep, st19_keep,
    st0_indices, st0_values_0, st0_indices_1, st0_c, st1_v4, st2_v5, st3_v6, st4_c_2, st5_v7, st6_v8, st6_c_3, st7_v9, st8_v10, st8_v12, st8_v14, st9_v15, st10_v18, st10_v21, st10_v23, st10_v25, st11_v26, st12_v29, st12_v31, st12_v32, st13_v33, st14_v35, st14_v37, st15_v38, st16_v39, st16_v41, st16_v43, st17_v44, st18_v53, st18_v62, st18_cst_11, st19_v63]

/-- The boxes. -/
theorem all_v53 (V : Valuation τ sig (Elt F)) : all V (Proc.devRef .tc main_v53) = boxes (shapeCast S4x2x262144 (V (Proc.devRef .tc main_v1)) shapeCasts_S8x512x512_S4x2x262144) (V (Proc.devRef .tc main_arg1)) (V (Proc.devRef .tc main_arg2)) (V (Proc.devRef .tc main_arg3)) (V (Proc.devRef .tc main_arg4)) (V (Proc.devRef .tc main_arg5)) := by
  unfold all boxes cell xOf yOf
  simp (disch := decide) only [st0_keep, st1_keep, st2_keep, st3_keep, st4_keep, st5_keep, st6_keep, st7_keep, st8_keep, st9_keep, st10_keep, st11_keep, st12_keep, st13_keep, st14_keep, st15_keep, st16_keep, st17_keep, st18_keep, st19_keep,
    st0_indices, st0_values_0, st0_indices_1, st0_c, st1_v4, st2_v5, st3_v6, st4_c_2, st5_v7, st6_v8, st6_c_3, st7_v9, st8_v10, st8_v12, st8_v14, st9_v15, st10_v18, st10_v21, st10_v23, st10_v25, st11_v26, st12_v29, st12_v31, st12_v32, st13_v33, st14_v35, st14_v37, st15_v38, st16_v39, st16_v41, st16_v43, st17_v44, st18_v53, st18_v62, st18_cst_11, st19_v63]

/-- The scores. -/
theorem all_v63 (V : Valuation τ sig (Elt F)) : all V (Proc.devRef .tc main_v63) = scores (shapeCast S4x2x262144 (V (Proc.devRef .tc main_v1)) shapeCasts_S8x512x512_S4x2x262144) (boxes (shapeCast S4x2x262144 (V (Proc.devRef .tc main_v1)) shapeCasts_S8x512x512_S4x2x262144) (V (Proc.devRef .tc main_arg1)) (V (Proc.devRef .tc main_arg2)) (V (Proc.devRef .tc main_arg3)) (V (Proc.devRef .tc main_arg4)) (V (Proc.devRef .tc main_arg5))) := by
  unfold all scores boxes cell xOf yOf
  simp (disch := decide) only [st0_keep, st1_keep, st2_keep, st3_keep, st4_keep, st5_keep, st6_keep, st7_keep, st8_keep, st9_keep, st10_keep, st11_keep, st12_keep, st13_keep, st14_keep, st15_keep, st16_keep, st17_keep, st18_keep, st19_keep,
    st0_indices, st0_values_0, st0_indices_1, st0_c, st1_v4, st2_v5, st3_v6, st4_c_2, st5_v7, st6_v8, st6_c_3, st7_v9, st8_v10, st8_v12, st8_v14, st9_v15, st10_v18, st10_v21, st10_v23, st10_v25, st11_v26, st12_v29, st12_v31, st12_v32, st13_v33, st14_v35, st14_v37, st15_v38, st16_v39, st16_v41, st16_v43, st17_v44, st18_v53, st18_v62, st18_cst_11, st19_v63]

end Cert.KernelIdeal.Tail
-- ==== Proof.KRun.lean ====
/- The kernel program's run, with its three results as functions of the arguments.

   The region runs one body per plane of the eight class planes: it reads a plane and writes a plane, so the array it
   leaves is, plane by plane, the body's function of the plane read. What follows it is the steps of the module about
   the later operations, applied to that array. -/
module

public import proofs.«01_k».proof.Proof.KTail
public import Idealize.ShloMosaic.Lib.Pipeline.ValueKit

@[expose] public section

noncomputable section

namespace Cert.KernelIdeal.Tail

open Cert.KernelIdeal Cert.KernelIdeal.Gen Cert.Decode
open Idealize.ShloMosaic Idealize.ShloMosaic.TcCoe Idealize.SL.Sem Idealize.ShloMosaic.StableHlo

variable {F : FTy → Type} [FloatOps F]

/-- The eight planes: each batch entry's two class maps, one after another. -/
def planes (a0 : FVec F S4x2x512x512 .f32) : FVec F S8x512x512 .f32 :=
  shapeCast S8x512x512 a0 shapeCasts_S4x2x512x512_S8x512x512

/-- The body's function on every plane. -/
def nms (p : FVec F S8x512x512 .f32) : FVec F S8x512x512 .f32 := fun i =>
  k0_pay1 (fun y : S1x512x512.Idx => p (ValueIdx.ix3 (i 0) (y 1) (y 2))) (ValueIdx.ix3 0 (i 1) (i 2))

/-- The scores after suppression, each class's cells on one axis. -/
def flat (a0 : FVec F S4x2x512x512 .f32) : FVec F S4x2x262144 .f32 :=
  shapeCast S4x2x262144 (nms (planes a0)) shapeCasts_S8x512x512_S4x2x262144

variable (m : (ℓ : Loc nD τ sig) → Buf (Elt F) ℓ)

/-- The array the region reads holds the eight planes of the heat map. -/
theorem V_main_v0 (c : Dev nD) : Gen.V m c main_v0 = planes (m ((c.tc : Thread nD τ).loc main_arg0)) := by
  show StableHlo.after (List.flatten [hostOps0]) (fun b => m (c, b)) (Proc.devRef .tc main_v0) = _
  simp only [hostOps0, List.flatten_cons, List.flatten_nil, List.append_nil]
  after_results_simp
  all_goals rfl

/-- Both windows are on plane `t` at point `t`. -/
theorem index_facts (t : Fin cfg0.N) :
    (win0_0.index t 0 = t.val ∧ win0_0.index t 1 = 0 ∧ win0_0.index t 2 = 0)
      ∧ win0_1.index t 0 = t.val ∧ win0_1.index t 1 = 0 ∧ win0_1.index t 2 = 0 := by
  revert t
  decide +kernel

/-- The plane a point reads is the array's plane of that number. -/
theorem iblk_eq (c : Dev nD) (t : Fin cfg0.N) (h8 : t.val < 8) :
    Gen.iblk m c 0 t = fun y : S1x512x512.Idx => Gen.V m c main_v0 (ValueIdx.ix3 ⟨t.val, h8⟩ (y 1) (y 2)) := by
  obtain ⟨⟨e0, e1, e2⟩, -⟩ := index_facts t
  funext y
  unfold Gen.iblk
  show Gen.V m c main_v0 _ = _
  congr 1
  funext a
  refine Fin.ext ?_
  have ha : ∀ a : Fin 3, a = 0 ∨ a = 1 ∨ a = 2 := by decide
  have hy : (y 0).val < 1 := (y 0).isLt
  rcases ha a with rfl | rfl | rfl
  · show win0_0.index t 0 * 1 + 1 * (y 0).val = t.val
    rw [e0]; omega
  · show win0_0.index t 1 * 512 + 1 * (y 1).val = (y 1).val
    rw [e1]; omega
  · show win0_0.index t 2 * 512 + 1 * (y 2).val = (y 2).val
    rw [e2]; omega

/-- The array the region leaves: the body's function on every plane. -/
theorem region (c : Dev nD) :
    (Gen.dats m 0 c).arrAt 1 cfg0.N = nms (planes (m ((c.tc : Thread nD τ).loc main_arg0))) := by
  refine (Gen.dats m 0 c).arrAt_eq_of_covers 1 _ (by decide +kernel) fun t hf y => ?_
  have h8 : t.val < 8 := lt_of_lt_of_eq t.isLt N_0
  obtain ⟨-, e0, e1, e2⟩ := index_facts t
  have hy : (y 0).val < 1 := (y 0).isLt
  blk_simp
  rw [Gen.after0_1]
  frame_out
  rw [iblk_eq m c t h8, V_main_v0]
  have hi : ((win0_1.blk t).view.emb y : S8x512x512.Idx) = ValueIdx.ix3 ⟨t.val, h8⟩ (y 1) (y 2) := by
    funext a
    refine Fin.ext ?_
    have ha : ∀ a : Fin 3, a = 0 ∨ a = 1 ∨ a = 2 := by decide
    rcases ha a with rfl | rfl | rfl
    · show win0_1.index t 0 * 1 + 1 * (y 0).val = t.val
      rw [e0]; omega
    · show win0_1.index t 1 * 512 + 1 * (y 1).val = (y 1).val
      rw [e1]; omega
    · show win0_1.index t 2 * 512 + 1 * (y 2).val = (y 2).val
      rw [e2]; omega
  have hj : (y : S1x512x512.Idx) = ValueIdx.ix3 0 (y 1) (y 2) := by
    funext a
    have ha : ∀ a : Fin 3, a = 0 ∨ a = 1 ∨ a = 2 := by decide
    rcases ha a with rfl | rfl | rfl
    · exact Fin.ext (by show (y 0).val = 0; omega)
    · rfl
    · rfl
  rw [hi]
  exact congrArg (k0_pay1 fun y' : S1x512x512.Idx => planes _ (ValueIdx.ix3 ⟨t.val, h8⟩ (y' 1) (y' 2))) hj

/-- The buffers when the region is left. -/
abbrev exitV (c : Dev nD) : Valuation τ sig (Elt F) :=
  Pipeline.withArrays spec0 c (Gen.V0 m c) fun w => (Gen.dats m 0 c).arrAt w cfg0.N

/-- The region's array when it is left. -/
theorem exit_v1 (c : Dev nD) :
    exitV m c (Proc.devRef .tc main_v1) = nms (planes (m ((c.tc : Thread nD τ).loc main_arg0))) :=
  (Pipeline.withArrays_arr spec0 Gen.launch0.win.arr_inj c (Gen.V0 m c) _ 1).trans (region m c)

/-- Argument 1 when the region is left: as at the start. -/
theorem exit_arg1 (c : Dev nD) :
    exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans
    (Gen.V_main_arg1 m c)

/-- Argument 2 when the region is left: as at the start. -/
theorem exit_arg2 (c : Dev nD) :
    exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans
    (Gen.V_main_arg2 m c)

/-- Argument 3 when the region is left: as at the start. -/
theorem exit_arg3 (c : Dev nD) :
    exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans
    (Gen.V_main_arg3 m c)

/-- Argument 4 when the region is left: as at the start. -/
theorem exit_arg4 (c : Dev nD) :
    exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans
    (Gen.V_main_arg4 m c)

/-- Argument 5 when the region is left: as at the start. -/
theorem exit_arg5 (c : Dev nD) :
    exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans
    (Gen.V_main_arg5 m c)

/-- The boxes as a function of the arguments. -/
def kBoxes (c : Dev nD) : FVec F S4x500x9 .f32 :=
  boxes (flat (m ((c.tc : Thread nD τ).loc main_arg0))) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- The scores as a function of the arguments. -/
def kScores (c : Dev nD) : FVec F S4x500 .f32 :=
  scores (flat (m ((c.tc : Thread nD τ).loc main_arg0))) (kBoxes m c)

/-- The labels as a function of the arguments. -/
def kLabels (c : Dev nD) : IVec S4x500 32 := labels (flat (m ((c.tc : Thread nD τ).loc main_arg0)))

/-- The boxes at the end. -/
theorem fin_v53 (c : Dev nD) : all (exitV m c) (Proc.devRef .tc main_v53) = kBoxes m c := by
  rw [all_v53, exit_v1, exit_arg1, exit_arg2, exit_arg3, exit_arg4, exit_arg5]
  rfl

/-- The scores at the end. -/
theorem fin_v63 (c : Dev nD) : all (exitV m c) (Proc.devRef .tc main_v63) = kScores m c := by
  rw [all_v63, exit_v1, exit_arg1, exit_arg2, exit_arg3, exit_arg4, exit_arg5]
  rfl

/-- The labels at the end. -/
theorem fin_v4 (c : Dev nD) : all (exitV m c) (Proc.devRef .tc main_v4) = kLabels m c := by
  rw [all_v4, exit_v1]
  rfl

/-- Every execution of the kernel program ends with the three results at these functions of the arguments, and the
    arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v53) = kBoxes m c
      ∧ r.2.mem ((c.tc : Thread nD τ).loc main_v63) = kScores m c
      ∧ r.2.mem ((c.tc : Thread nD τ).loc main_v4) = kLabels m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v53 (Pipeline.mem_restRefs_of main_v53 (by decide) (by decide))).trans
        ((congrFun (after_all (exitV m c)) (Proc.devRef .tc main_v53)).trans (fin_v53 m c)),
      ((h c).2 main_v63 (Pipeline.mem_restRefs_of main_v63 (by decide) (by decide))).trans
        ((congrFun (after_all (exitV m c)) (Proc.devRef .tc main_v63)).trans (fin_v63 m c)),
      ((h c).2 main_v4 (Pipeline.mem_restRefs_of main_v4 (by decide) (by decide))).trans
        ((congrFun (after_all (exitV m c)) (Proc.devRef .tc main_v4)).trans (fin_v4 m c)),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c)⟩)
    (Gen.run_main m ρ)

end Cert.KernelIdeal.Tail
-- ==== Proof.Nms.lean ====
/- The suppression step: the kernel's shifted maxima and the reference's window maximum are the same function.

   On a 512 by 512 plane the kernel takes at every cell the greatest of the cell and its two vertical neighbours, and
   then the greatest of that and its two horizontal neighbours, with minus infinity beyond the border. The reference
   takes the maximum over a three by three window of the plane padded with minus infinity. Both keep a score where it
   equals that maximum. The kernel chooses between the score and zero, while the reference multiplies the score by one
   or zero. -/
module

public import proofs.«01_k».proof.Proof.KRun
public import proofs.«01_k».proof.Proof.Gen.ReferenceIdeal.Read
public import Idealize.ShloMosaic.Lib.ValueIdx

@[expose] public section

noncomputable section

namespace Cert.Decode

open Idealize.ShloMosaic Idealize.ShloMosaic.TcCoe

/-! ## Neighbours on a plane -/

/-- The shape of a plane. -/
abbrev Pl : Shape := ⟨2, ![512, 512]⟩

/-- An index of a plane is its two coordinates. -/
theorem pl_eta (i : Pl.Idx) : i = ValueIdx.ix2 (i 0) (i 1) := by
  funext a
  have ha : ∀ a : Fin 2, a = 0 ∨ a = 1 := by decide
  rcases ha a with rfl | rfl <;> rfl

section
variable {α : Type} (e : α) (v : Pl.Idx → α)

/-- The row below each cell, the fill value below the last row. -/
theorem below_apply (h : Pl.Slices ![1, 0] ⟨2, ![511, 512]⟩)
    (hc : Shape.Concatenates [⟨2, ![511, 512]⟩, ⟨2, ![1, 512]⟩] Pl 0) (y x : Fin 512) :
    concatenate Pl 0 [⟨⟨2, ![511, 512]⟩, extractStridedSlice ⟨2, ![511, 512]⟩ ![1, 0] v h⟩,
      ⟨⟨2, ![1, 512]⟩, broadcast ⟨2, ![1, 512]⟩ e⟩] hc (ValueIdx.ix2 y x)
      = if hy : y.val + 1 < 512 then v (ValueIdx.ix2 ⟨y.val + 1, hy⟩ x) else e := by
  have ha : ∀ a : Fin 2, a = 0 ∨ a = 1 := by decide
  by_cases hy : y.val + 1 < 512
  · rw [dif_pos hy, concatenate_pair_apply_left 0 _ _ hc _ rfl
      (ValueIdx.ix2 (⟨y.val, by omega⟩ : Fin 511) x) (fun b => by rcases ha b with rfl | rfl <;> rfl)]
    refine extractStridedSlice_apply ![1, 0] v h _ _ ?_
    intro b
    rcases ha b with rfl | rfl
    · show y.val + 1 = 1 + y.val; omega
    · show x.val = 0 + x.val; omega
  · rw [dif_neg hy, concatenate_pair_apply_right 0 _ _ hc _ rfl rfl (ValueIdx.ix2 (0 : Fin 1) x)
      (fun b hb => by rcases ha b with rfl | rfl; exacts [absurd rfl hb, rfl])
      (by show 0 + 511 = y.val; have := y.isLt; omega)]
    rfl

/-- The row above each cell, the fill value above the first row. -/
theorem above_apply (h : Pl.Slices ![0, 0] ⟨2, ![511, 512]⟩)
    (hc : Shape.Concatenates [⟨2, ![1, 512]⟩, ⟨2, ![511, 512]⟩] Pl 0) (y x : Fin 512) :
    concatenate Pl 0 [⟨⟨2, ![1, 512]⟩, broadcast ⟨2, ![1, 512]⟩ e⟩,
      ⟨⟨2, ![511, 512]⟩, extractStridedSlice ⟨2, ![511, 512]⟩ ![0, 0] v h⟩] hc (ValueIdx.ix2 y x)
      = if hy : 1 ≤ y.val then v (ValueIdx.ix2 ⟨y.val - 1, by omega⟩ x) else e := by
  have ha : ∀ a : Fin 2, a = 0 ∨ a = 1 := by decide
  by_cases hy : 1 ≤ y.val
  · rw [dif_pos hy, concatenate_pair_apply_right 0 _ _ hc _ rfl rfl
      (ValueIdx.ix2 (⟨y.val - 1, by omega⟩ : Fin 511) x)
      (fun b hb => by rcases ha b with rfl | rfl; exacts [absurd rfl hb, rfl])
      (by show y.val - 1 + 1 = y.val; omega)]
    refine extractStridedSlice_apply ![0, 0] v h _ _ ?_
    intro b
    rcases ha b with rfl | rfl
    · show y.val - 1 = 0 + (y.val - 1); omega
    · show x.val = 0 + x.val; omega
  · rw [dif_neg hy, concatenate_pair_apply_left 0 _ _ hc _ rfl (ValueIdx.ix2 (0 : Fin 1) x)
      (fun b => by
        rcases ha b with rfl | rfl
        · show 0 = y.val; omega
        · rfl)]
    rfl

/-- The column right of each cell, the fill value right of the last column. -/
theorem right_apply (h : Pl.Slices ![0, 1] ⟨2, ![512, 511]⟩)
    (hc : Shape.Concatenates [⟨2, ![512, 511]⟩, ⟨2, ![512, 1]⟩] Pl 1) (y x : Fin 512) :
    concatenate Pl 1 [⟨⟨2, ![512, 511]⟩, extractStridedSlice ⟨2, ![512, 511]⟩ ![0, 1] v h⟩,
      ⟨⟨2, ![512, 1]⟩, broadcast ⟨2, ![512, 1]⟩ e⟩] hc (ValueIdx.ix2 y x)
      = if hx : x.val + 1 < 512 then v (ValueIdx.ix2 y ⟨x.val + 1, hx⟩) else e := by
  have ha : ∀ a : Fin 2, a = 0 ∨ a = 1 := by decide
  by_cases hx : x.val + 1 < 512
  · rw [dif_pos hx, concatenate_pair_apply_left 1 _ _ hc _ rfl
      (ValueIdx.ix2 y (⟨x.val, by omega⟩ : Fin 511)) (fun b => by rcases ha b with rfl | rfl <;> rfl)]
    refine extractStridedSlice_apply ![0, 1] v h _ _ ?_
    intro b
    rcases ha b with rfl | rfl
    · show y.val = 0 + y.val; omega
    · show x.val + 1 = 1 + x.val; omega
  · rw [dif_neg hx, concatenate_pair_apply_right 1 _ _ hc _ rfl rfl (ValueIdx.ix2 y (0 : Fin 1))
      (fun b hb => by rcases ha b with rfl | rfl; exacts [rfl, absurd rfl hb])
      (by show 0 + 511 = x.val; have := x.isLt; omega)]
    rfl

/-- The column left of each cell, the fill value left of the first column. -/
theorem left_apply (h : Pl.Slices ![0, 0] ⟨2, ![512, 511]⟩)
    (hc : Shape.Concatenates [⟨2, ![512, 1]⟩, ⟨2, ![512, 511]⟩] Pl 1) (y x : Fin 512) :
    concatenate Pl 1 [⟨⟨2, ![512, 1]⟩, broadcast ⟨2, ![512, 1]⟩ e⟩,
      ⟨⟨2, ![512, 511]⟩, extractStridedSlice ⟨2, ![512, 511]⟩ ![0, 0] v h⟩] hc (ValueIdx.ix2 y x)
      = if hx : 1 ≤ x.val then v (ValueIdx.ix2 y ⟨x.val - 1, by omega⟩) else e := by
  have ha : ∀ a : Fin 2, a = 0 ∨ a = 1 := by decide
  by_cases hx : 1 ≤ x.val
  · rw [dif_pos hx, concatenate_pair_apply_right 1 _ _ hc _ rfl rfl
      (ValueIdx.ix2 y (⟨x.val - 1, by omega⟩ : Fin 511))
      (fun b hb => by rcases ha b with rfl | rfl; exacts [rfl, absurd rfl hb])
      (by show x.val - 1 + 1 = x.val; omega)]
    refine extractStridedSlice_apply ![0, 0] v h _ _ ?_
    intro b
    rcases ha b with rfl | rfl
    · show y.val = 0 + y.val; omega
    · show x.val - 1 = 0 + (x.val - 1); omega
  · rw [dif_neg hx, concatenate_pair_apply_left 1 _ _ hc _ rfl (ValueIdx.ix2 y (0 : Fin 1))
      (fun b => by
        rcases ha b with rfl | rfl
        · rfl
        · show 0 = x.val; omega)]
    rfl

end

/-! ## The padded plane -/

/-- A plane with a border of minus infinity, its cells counted from one. -/
def fence (s : Fin 512 → Fin 512 → EReal) (y x : ℕ) : EReal :=
  if h : (1 ≤ y ∧ y - 1 < 512) ∧ 1 ≤ x ∧ x - 1 < 512 then s ⟨y - 1, h.1.2⟩ ⟨x - 1, h.2.2⟩ else ⊥

/-- Inside, the padded plane is the plane. -/
theorem fence_in (s : Fin 512 → Fin 512 → EReal) (y x : Fin 512) : fence s (y.val + 1) (x.val + 1) = s y x := by
  have := y.isLt; have := x.isLt
  unfold fence
  rw [dif_pos ⟨⟨by omega, by omega⟩, by omega, by omega⟩]
  rfl

/-- Left or right of the plane, the padded plane is minus infinity. -/
theorem fence_col (s : Fin 512 → Fin 512 → EReal) (y x : ℕ) (h : x = 0 ∨ 512 < x) : fence s y x = ⊥ := by
  unfold fence
  rw [dif_neg (by omega)]

/-- Above or below the plane, the padded plane is minus infinity. -/
theorem fence_row (s : Fin 512 → Fin 512 → EReal) (y x : ℕ) (h : y = 0 ∨ 512 < y) : fence s y x = ⊥ := by
  unfold fence
  rw [dif_neg (by omega)]

/-- The greatest of a column's three cells. -/
def col3max (s : Fin 512 → Fin 512 → EReal) (y : Fin 512) (x : ℕ) : EReal :=
  max (max (fence s (y.val + 2) x) (fence s y.val x)) (fence s (y.val + 1) x)

/-- The greatest of a window's nine cells, the three columns' greatest. -/
def nine (s : Fin 512 → Fin 512 → EReal) (y x : Fin 512) : EReal :=
  max (max (col3max s y (x.val + 2)) (col3max s y x.val)) (col3max s y (x.val + 1))

end Cert.Decode

namespace Cert.KernelIdeal.Tail

open Cert.KernelIdeal Cert.KernelIdeal.Gen Cert.Decode
open Idealize.ShloMosaic Idealize.ShloMosaic.TcCoe

/-- Minus infinity, as the kernel spells it. -/
theorem low : (Scalar.ofBits .f32 0xFF800000#32 : Ideal .f32) = (⊥ : EReal) := by
  show Ideal.ofBits .f32 0xFF800000#32 = ⊥
  simp [Ideal.ofBits, Ideal.ieee]

/-- Zero, as the kernel spells it. -/
theorem nil : (Scalar.ofBits .f32 0x00000000#32 : Ideal .f32) = (0 : EReal) := by
  show Ideal.ofBits .f32 0x00000000#32 = 0
  simp [Ideal.ofBits, Ideal.ieee]

/-- Each cell's maximum with the cells below and above it. -/
def tall (s : FVec Ideal S512x512 .f32) : FVec Ideal S512x512 .f32 :=
  maximumf (maximumf
    (concatenate S512x512 0 [⟨S511x512, extractStridedSlice S511x512 ![1, 0] s slices_S512x512_o1_0_S511x512⟩,
      ⟨S1x512, broadcast S1x512 (Scalar.ofBits .f32 0xFF800000#32)⟩] concatenates_S511x512_S1x512_S512x512_d0)
    (concatenate S512x512 0 [⟨S1x512, broadcast S1x512 (Scalar.ofBits .f32 0xFF800000#32)⟩,
      ⟨S511x512, extractStridedSlice S511x512 ![0, 0] s slices_S512x512_o0_0_S511x512⟩]
      concatenates_S1x512_S511x512_S512x512_d0)) s

/-- Each cell's maximum with the cells right and left of it. -/
def wide (s : FVec Ideal S512x512 .f32) : FVec Ideal S512x512 .f32 :=
  maximumf (maximumf
    (concatenate S512x512 1 [⟨S512x511, extractStridedSlice S512x511 ![0, 1] s slices_S512x512_o0_1_S512x511⟩,
      ⟨S512x1, broadcast S512x1 (Scalar.ofBits .f32 0xFF800000#32)⟩] concatenates_S512x511_S512x1_S512x512_d1)
    (concatenate S512x512 1 [⟨S512x1, broadcast S512x1 (Scalar.ofBits .f32 0xFF800000#32)⟩,
      ⟨S512x511, extractStridedSlice S512x511 ![0, 0] s slices_S512x512_o0_0_S512x511⟩]
      concatenates_S512x1_S512x511_S512x512_d1)) s

/-- The vertical maximum at a cell. -/
theorem tall_apply (s : FVec Ideal S512x512 .f32) (y x : Fin 512) :
    tall s (ValueIdx.ix2 y x) = col3max (fun y x => s (ValueIdx.ix2 y x)) y (x.val + 1) := by
  have := y.isLt
  refine (congrArg₂ max (congrArg₂ max (below_apply _ s _ _ y x) (above_apply _ s _ _ y x)) rfl).trans ?_
  rw [low]
  unfold col3max
  congr 1
  · congr 1
    · by_cases h : y.val + 1 < 512
      · rw [dif_pos h]; exact (fence_in (fun y x => s (ValueIdx.ix2 y x)) ⟨y.val + 1, h⟩ x).symm
      · rw [dif_neg h]; exact (fence_row _ _ _ (by omega)).symm
    · by_cases h : 1 ≤ y.val
      · rw [dif_pos h]
        have e := fence_in (fun y x => s (ValueIdx.ix2 y x)) ⟨y.val - 1, by omega⟩ x
        have e' : y.val - 1 + 1 = y.val := by omega
        rw [show (⟨y.val - 1, _⟩ : Fin 512).val + 1 = y.val from e'] at e
        exact e.symm
      · rw [dif_neg h]; exact (fence_row _ _ _ (by omega)).symm
  · exact (fence_in (fun y x => s (ValueIdx.ix2 y x)) y x).symm

/-- Outside the columns, a column's greatest cell is minus infinity. -/
theorem col3max_out (s : Fin 512 → Fin 512 → EReal) (y : Fin 512) (x : ℕ) (h : x = 0 ∨ 512 < x) :
    col3max s y x = ⊥ := by
  unfold col3max
  rw [fence_col s _ x h, fence_col s _ x h, fence_col s _ x h, max_self, max_self]

/-- The horizontal maximum of the vertical maxima at a cell: the greatest of the window. -/
theorem wide_apply (s : FVec Ideal S512x512 .f32) (y x : Fin 512) :
    wide (tall s) (ValueIdx.ix2 y x) = nine (fun y x => s (ValueIdx.ix2 y x)) y x := by
  have := x.isLt
  refine (congrArg₂ max (congrArg₂ max (right_apply _ (tall s) _ _ y x) (left_apply _ (tall s) _ _ y x))
    (tall_apply s y x)).trans ?_
  rw [low]
  unfold nine
  congr 1
  congr 1
  · by_cases h : x.val + 1 < 512
    · rw [dif_pos h, tall_apply]
    · rw [dif_neg h]; exact (col3max_out _ y _ (by omega)).symm
  · by_cases h : 1 ≤ x.val
    · rw [dif_pos h, tall_apply]
      have e' : x.val - 1 + 1 = x.val := by omega
      show col3max _ y (x.val - 1 + 1) = _
      rw [e']
    · rw [dif_neg h]; exact (col3max_out _ y _ (by omega)).symm

/-- The plane of scores: the logistic function of the block's only plane. -/
def score (v : Vec Ideal S1x512x512 .f32) : FVec Ideal S512x512 .f32 :=
  logistic (shapeCast S512x512 v shapeCasts_S1x512x512_S512x512)

/-- A score at a cell. -/
theorem score_apply (v : Vec Ideal S1x512x512 .f32) (y x : Fin 512) :
    score v (ValueIdx.ix2 y x) = Ideal.logistic (v (ValueIdx.ix3 0 y x)) :=
  congrArg Ideal.logistic (shapeCast_apply v shapeCasts_S1x512x512_S512x512 (ValueIdx.ix2 y x) (ValueIdx.ix3 0 y x) (by
    rewrite [Shape.rowMajor_val_three, Shape.rowMajor_val_two]
    show (0 * 512 + y.val) * 512 + x.val = y.val * 512 + x.val
    omega))

/-- The kernel body's function at a cell: the score where it is the greatest of its window, zero elsewhere. -/
theorem pay_apply (v : Vec Ideal S1x512x512 .f32) (y x : Fin 512) :
    k0_pay1 (F := Ideal) v (ValueIdx.ix3 0 y x)
      = if nine (fun y x => Ideal.logistic (v (ValueIdx.ix3 0 y x))) y x = Ideal.logistic (v (ValueIdx.ix3 0 y x))
        then Ideal.logistic (v (ValueIdx.ix3 0 y x)) else 0 := by
  have e : k0_pay1 (F := Ideal) v (ValueIdx.ix3 0 y x)
      = select (cmpf .oeq (wide (tall (score v))) (score v)) (score v)
          (broadcast S512x512 (Scalar.ofBits .f32 0x00000000#32 : Ideal .f32)) (ValueIdx.ix2 y x) := by
    have e0 : k0_pay1 (F := Ideal) v
        = shapeCast S1x512x512 (select (cmpf .oeq (wide (tall (score v))) (score v)) (score v)
            (broadcast S512x512 (Scalar.ofBits .f32 0x00000000#32 : Ideal .f32))) shapeCasts_S512x512_S1x512x512 := rfl
    rw [e0]
    exact shapeCast_apply _ shapeCasts_S512x512_S1x512x512 (ValueIdx.ix3 0 y x) (ValueIdx.ix2 y x) (by
      rewrite [Shape.rowMajor_val_three, Shape.rowMajor_val_two]
      show y.val * 512 + x.val = (0 * 512 + y.val) * 512 + x.val
      omega)
  have hs : (fun y x => score v (ValueIdx.ix2 y x)) = fun y x => Ideal.logistic (v (ValueIdx.ix3 0 y x)) := by
    funext y x; exact score_apply v y x
  have hn := wide_apply (score v) y x
  rw [hs] at hn
  rw [e]
  show (if BitVec.ofBool (decide (wide (tall (score v)) (ValueIdx.ix2 y x) = score v (ValueIdx.ix2 y x))) = 1
    then score v (ValueIdx.ix2 y x) else (Scalar.ofBits .f32 0x00000000#32 : Ideal .f32)) = _
  rw [hn, score_apply, nil]
  by_cases h : nine (fun y x => Ideal.logistic (v (ValueIdx.ix3 0 y x))) y x = Ideal.logistic (v (ValueIdx.ix3 0 y x))
  · rw [if_pos h, if_pos (by rw [decide_eq_true h]; rfl)]
  · rw [if_neg h, if_neg (by rw [decide_eq_false h]; decide)]

end Cert.KernelIdeal.Tail

namespace Cert.ReferenceIdeal.Read

open Cert.Decode
open Idealize.ShloMosaic Idealize.ShloMosaic.TcCoe

/-- One, as the reference spells it. -/
theorem one : (FloatOps.ofBits .f32 0x3F800000#32 : Ideal .f32) = (1 : EReal) := by
  show Ideal.ofBits .f32 0x3F800000#32 = 1
  simp [Ideal.ofBits, Ideal.ieee, -EReal.coe_mul]; norm_num

/-- The reference's expanded sigmoid is the logistic function. -/
theorem v5_apply (x0 : (⟨S4x2x512x512, .f32⟩ : BufTy).Contents (Elt Ideal)) (i : S4x2x512x512.Idx) :
    val_main_v5 (F := Ideal) x0 i = Ideal.logistic (x0 i) := by
  show Ideal.div (val_main_v4 (F := Ideal) i) (val_main_v2 (F := Ideal) i + Ideal.exp (-(x0 i))) = _
  rw [val_main_v4_apply, val_main_v2_apply]
  show Ideal.div (FloatOps.ofBits .f32 0x3F800000#32 : Ideal .f32)
    ((FloatOps.ofBits .f32 0x3F800000#32 : Ideal .f32) + Ideal.exp (-(x0 i))) = _
  rw [one]
  rfl

/-- The window's shape. -/
abbrev Wn : Shape := ⟨4, ![1, 1, 3, 3]⟩

/-- The window's positions, row after row. -/
theorem window_pos (n : Fin Wn.numel) :
    (Wn.rowMajor.symm n 0).val = 0 ∧ (Wn.rowMajor.symm n 1).val = 0
      ∧ (Wn.rowMajor.symm n 2).val = n.val / 3 ∧ (Wn.rowMajor.symm n 3).val = n.val % 3 := by
  have h := congrArg Fin.val (Wn.rowMajor.apply_symm_apply n)
  rewrite [Shape.rowMajor_val_four] at h
  have h0 : (Wn.rowMajor.symm n 0).val < 1 := (Wn.rowMajor.symm n 0).isLt
  have h1 : (Wn.rowMajor.symm n 1).val < 1 := (Wn.rowMajor.symm n 1).isLt
  have h2 : (Wn.rowMajor.symm n 2).val < 3 := (Wn.rowMajor.symm n 2).isLt
  have h3 : (Wn.rowMajor.symm n 3).val < 3 := (Wn.rowMajor.symm n 3).isLt
  have h' : (((Wn.rowMajor.symm n 0).val * 1 + (Wn.rowMajor.symm n 1).val) * 3 + (Wn.rowMajor.symm n 2).val) * 3
      + (Wn.rowMajor.symm n 3).val = n.val := h
  omega

/-- A running maximum over nine positions. -/
theorem fold_nine (N : ℕ) (hN : N = 9) (P : ℕ → EReal) :
    (List.finRange N).foldl (fun r n => max r (P n.val)) ⊥
      = max (max (max (max (max (max (max (max (P 0) (P 1)) (P 2)) (P 3)) (P 4)) (P 5)) (P 6)) (P 7)) (P 8) := by
  subst hN
  have e : List.finRange 9 = [0, 1, 2, 3, 4, 5, 6, 7, 8] := by decide
  rw [e]
  simp only [List.foldl_cons, List.foldl_nil, bot_le, max_eq_right]
  rfl

/-- The window maximum at a cell. -/
theorem v7_apply (x0 : (⟨S4x2x512x512, .f32⟩ : BufTy).Contents (Elt Ideal)) (b : Fin 4) (k : Fin 2) (y x : Fin 512) :
    val_main_v7 (F := Ideal) x0 (ValueIdx.ix4 b k y x)
      = nine (fun y x => Ideal.logistic (x0 (ValueIdx.ix4 b k y x))) y x := by
  have e : val_main_v7 (F := Ideal) x0 (ValueIdx.ix4 b k y x)
      = (List.finRange Wn.numel).foldl (fun r n => max r (fence (fun y x => Ideal.logistic (x0 (ValueIdx.ix4 b k y x)))
          (y.val + n.val / 3) (x.val + n.val % 3))) (⊥ : EReal) := by
    have hv : (val_main_v6 (F := Ideal)) = fun _ => (⊥ : EReal) := by
      funext i
      rw [val_main_v6_apply]
      exact Cert.KernelIdeal.Tail.low
    unfold val_main_v7 Host.reduceWindow
    rw [hv]
    show List.foldl _ _ _ = _
    refine congrArg (fun f => List.foldl f (⊥ : EReal) (List.finRange Wn.numel)) ?_
    funext r n
    obtain ⟨w0, w1, w2, w3⟩ := window_pos n
    have ha : ∀ a : Fin 4, a = 0 ∨ a = 1 ∨ a = 2 ∨ a = 3 := by decide
    have hb := b.isLt
    have hk := k.isLt
    refine congrArg (max r) ?_
    unfold fence
    by_cases h : (1 ≤ y.val + n.val / 3 ∧ y.val + n.val / 3 - 1 < 512)
        ∧ 1 ≤ x.val + n.val % 3 ∧ x.val + n.val % 3 - 1 < 512
    · rw [dif_pos h, dif_pos (fun a => by
        rcases ha a with rfl | rfl | rfl | rfl
        · show 0 ≤ b.val * 1 + (Wn.rowMajor.symm n 0).val ∧ b.val * 1 + (Wn.rowMajor.symm n 0).val - 0 < 4
          omega
        · show 0 ≤ k.val * 1 + (Wn.rowMajor.symm n 1).val ∧ k.val * 1 + (Wn.rowMajor.symm n 1).val - 0 < 2
          omega
        · show 1 ≤ y.val * 1 + (Wn.rowMajor.symm n 2).val ∧ y.val * 1 + (Wn.rowMajor.symm n 2).val - 1 < 512
          omega
        · show 1 ≤ x.val * 1 + (Wn.rowMajor.symm n 3).val ∧ x.val * 1 + (Wn.rowMajor.symm n 3).val - 1 < 512
          omega), v5_apply]
      refine congrArg (fun j => Ideal.logistic (x0 j)) ?_
      funext a
      apply Fin.ext
      rcases ha a with rfl | rfl | rfl | rfl
      · show b.val * 1 + (Wn.rowMajor.symm n 0).val - 0 = b.val
        omega
      · show k.val * 1 + (Wn.rowMajor.symm n 1).val - 0 = k.val
        omega
      · show y.val * 1 + (Wn.rowMajor.symm n 2).val - 1 = y.val + n.val / 3 - 1
        omega
      · show x.val * 1 + (Wn.rowMajor.symm n 3).val - 1 = x.val + n.val % 3 - 1
        omega
    · rw [dif_neg h, dif_neg (fun hin => h (by
        have i2 : 1 ≤ y.val * 1 + (Wn.rowMajor.symm n 2).val ∧ y.val * 1 + (Wn.rowMajor.symm n 2).val - 1 < 512 := hin 2
        have i3 : 1 ≤ x.val * 1 + (Wn.rowMajor.symm n 3).val ∧ x.val * 1 + (Wn.rowMajor.symm n 3).val - 1 < 512 := hin 3
        omega))]
  rw [e, fold_nine Wn.numel (by decide) fun n => fence (fun y x => Ideal.logistic (x0 (ValueIdx.ix4 b k y x)))
    (y.val + n / 3) (x.val + n % 3)]
  unfold nine col3max
  simp only [Nat.reduceDiv, Nat.reduceMod, Nat.add_zero]
  ac_rfl

/-- The reference's kept scores at a cell. -/
theorem v10_apply (x0 : (⟨S4x2x512x512, .f32⟩ : BufTy).Contents (Elt Ideal)) (b : Fin 4) (k : Fin 2) (y x : Fin 512) :
    val_main_v10 (F := Ideal) x0 (ValueIdx.ix4 b k y x)
      = if nine (fun y x => Ideal.logistic (x0 (ValueIdx.ix4 b k y x))) y x
            = Ideal.logistic (x0 (ValueIdx.ix4 b k y x))
        then Ideal.logistic (x0 (ValueIdx.ix4 b k y x)) else 0 := by
  show val_main_v5 (F := Ideal) x0 (ValueIdx.ix4 b k y x)
    * (((BitVec.ofBool (decide (val_main_v7 (F := Ideal) x0 (ValueIdx.ix4 b k y x)
      = val_main_v5 (F := Ideal) x0 (ValueIdx.ix4 b k y x)))).toNat : ℝ) : EReal) = _
  rw [v7_apply, v5_apply]
  by_cases h : nine (fun y x => Ideal.logistic (x0 (ValueIdx.ix4 b k y x))) y x
      = Ideal.logistic (x0 (ValueIdx.ix4 b k y x))
  · rw [if_pos h, decide_eq_true h]; simp
  · rw [if_neg h, decide_eq_false h]; simp

end Cert.ReferenceIdeal.Read

namespace Cert.Decode

open Idealize.ShloMosaic Idealize.ShloMosaic.TcCoe

/-- The kernel's flat heat map is the reference's. -/
theorem flat_eq (a0 : (⟨Cert.ReferenceIdeal.S4x2x512x512, .f32⟩ : BufTy).Contents (Elt Ideal)) :
    Cert.KernelIdeal.Tail.flat (F := Ideal) a0 = Cert.ReferenceIdeal.Read.val_main_v14 (F := Ideal) a0 := by
  funext i
  have h0 : (i 0).val < 4 := (i 0).isLt
  have h1 : (i 1).val < 2 := (i 1).isLt
  have h2 : (i 2).val < 262144 := (i 2).isLt
  have hy : (i 2).val / 512 < 512 := by omega
  have hx : (i 2).val % 512 < 512 := by omega
  have hp : (i 0).val * 2 + (i 1).val < 8 := by omega
  have plane : ∀ y x : Fin 512, Cert.KernelIdeal.Tail.planes (F := Ideal) a0 (ValueIdx.ix3 ⟨(i 0).val * 2 + (i 1).val, hp⟩ y x)
      = a0 (ValueIdx.ix4 ⟨(i 0).val, h0⟩ ⟨(i 1).val, h1⟩ y x) := fun y x =>
    shapeCast_apply a0 _ _ _ (by
      rewrite [Shape.rowMajor_val_four, Shape.rowMajor_val_three]
      rfl)
  have ek : Cert.KernelIdeal.Tail.flat (F := Ideal) a0 i
      = Cert.KernelIdeal.Tail.nms (F := Ideal) (Cert.KernelIdeal.Tail.planes a0)
          (ValueIdx.ix3 ⟨(i 0).val * 2 + (i 1).val, hp⟩ ⟨(i 2).val / 512, hy⟩ ⟨(i 2).val % 512, hx⟩) :=
    shapeCast_apply _ _ _ _ (by
      rewrite [Shape.rowMajor_val_three, Shape.rowMajor_val_three]
      show (((i 0).val * 2 + (i 1).val) * 512 + (i 2).val / 512) * 512 + (i 2).val % 512
        = ((i 0).val * 2 + (i 1).val) * 262144 + (i 2).val
      omega)
  have er : Cert.ReferenceIdeal.Read.val_main_v14 (F := Ideal) a0 i
      = Cert.ReferenceIdeal.Read.val_main_v10 (F := Ideal) a0
          (ValueIdx.ix4 ⟨(i 0).val, h0⟩ ⟨(i 1).val, h1⟩ ⟨(i 2).val / 512, hy⟩ ⟨(i 2).val % 512, hx⟩) := by
    unfold Cert.ReferenceIdeal.Read.val_main_v14
    exact shapeCast_apply _ _ _ _ (by
      rewrite [Shape.rowMajor_val_four, Shape.rowMajor_val_three]
      show ((((i 0).val * 2 + (i 1).val) * 512 + (i 2).val / 512) * 512 + (i 2).val % 512
        = ((i 0).val * 2 + (i 1).val) * 262144 + (i 2).val)
      omega)
  rw [ek, er, Cert.ReferenceIdeal.Read.v10_apply]
  refine (Cert.KernelIdeal.Tail.pay_apply _ _ _).trans ?_
  simp only [← plane]

end Cert.Decode
-- ==== Proof.Compare.lean ====
/- The later operations of the two programs compute the same arrays.

   With the suppressed scores equal, the two programs select the same cells, and fetch the same entries at them. They
   differ in order only: the reference divides all candidates' cells into coordinates and fetches the coordinates, where
   the kernel fetches the cell and divides it. It exponentiates the whole size map and splits the rotation map before
   fetching, where the kernel does so afterwards. It scales by four and then by a fifth, where the kernel scales by four
   fifths. -/
module

public import proofs.«01_k».proof.Proof.Nms

@[expose] public section

noncomputable section

namespace Cert.Compare

open Cert.Decode Cert.KernelIdeal.Tail Cert.ReferenceIdeal Cert.ReferenceIdeal.Read
open Idealize.ShloMosaic Idealize.ShloMosaic.TcCoe

variable {F : FTy → Type} [FloatOps F]
variable (x0 x1 : FVec F S4x2x512x512 .f32) (x2 : FVec F S4x1x512x512 .f32) (x3 : FVec F S4x3x512x512 .f32)
  (x4 x5 : FVec F S4x2x512x512 .f32)

/-! ## The selection -/

/-- The reference's selected scores per class. -/
theorem values_eq : val_main_values (F := F) x0 = vals (val_main_v14 (F := F) x0) := rfl

/-- The reference's selected cells per class. -/
theorem indices_eq : val_main_indices (F := F) x0 = cells (val_main_v14 (F := F) x0) := rfl

/-- The reference's selected scores. -/
theorem top_eq : val_main_values_6 (F := F) x0 = top (val_main_v14 (F := F) x0) := rfl

/-- The reference's selected places. -/
theorem pos_eq : val_main_indices_7 (F := F) x0 = pos (val_main_v14 (F := F) x0) := rfl

/-- The reference's labels. -/
theorem labels_eq : val_main_v21 (F := F) x0 = labels (val_main_v14 (F := F) x0) := rfl

/-- A selected cell lies on the grid. -/
theorem cells_lt (X : FVec F S4x2x262144 .f32) (i : S4x2x500.Idx) : (cells X i).toNat < 262144 := by
  have h := topK_snd_lt S4x2x500 2 (FloatOps.cmpfTotal .gt) X
    Cert.KernelIdeal.Gen.sliceFits_S4x2x262144_S4x2x500 (by decide) (by decide) i
  exact h

/-- A selected place is one of the thousand. -/
theorem pos_lt (X : FVec F S4x2x262144 .f32) (i : S4x500.Idx) : (pos X i).toNat < 1000 := by
  have h := topK_snd_lt S4x500 1 (FloatOps.cmpfTotal .gt)
    (shapeCast S4x1000 (vals X) Cert.KernelIdeal.Gen.shapeCasts_S4x2x500_S4x1000)
    Cert.KernelIdeal.Gen.sliceFits_S4x1000_S4x500 (by decide) (by decide) i
  exact h

/-- The reference's remainder by the grid's size changes nothing. -/
theorem v15_eq : val_main_v15 (F := F) x0 = cells (val_main_v14 (F := F) x0) := by
  have e : val_main_v15 (F := F) x0
      = floorMod Gen.bcast_S_S4x2x500 (constantI Sc 32 262144#32) (val_main_indices (F := F) x0) := rfl
  rw [e]
  funext i
  rw [floorMod_apply, indices_eq]
  exact modw_of_lt (cells_lt _ i)

/-- An array of the thousand candidates read at the selected places. -/
def chosen {α : Type} (X : FVec F S4x2x262144 .f32) (g : S4x2x500.Idx → α) (b : Fin 4) (k : Fin 500) : α :=
  shapeCast S4x1000 g Cert.KernelIdeal.Gen.shapeCasts_S4x2x500_S4x1000
    (ValueIdx.ix2 b ⟨(pos X (ValueIdx.ix2 b k)).toNat, pos_lt X _⟩)

/-- The kernel's selected cell. -/
theorem cell_apply (X : FVec F S4x2x262144 .f32) (b : Fin 4) (k : Fin 500) :
    cell X (ValueIdx.ix2 b k) = chosen X (cells X) b k :=
  takeRow_apply _ _ _ _ _ _ _ (pos X) (by decide) (by decide) (pos_lt X) b k

/-- An index of two coordinates is those. -/
theorem split2 {n k : ℕ} (i : (⟨2, ![n, k]⟩ : Shape).Idx) : ∃ (a : Fin n) (b : Fin k), i = ValueIdx.ix2 a b :=
  ⟨i 0, i 1, by
    funext a
    have ha : ∀ a : Fin 2, a = 0 ∨ a = 1 := by decide
    rcases ha a with rfl | rfl <;> rfl⟩

/-- An index of three coordinates is those. -/
theorem split3 {n k c : ℕ} (i : (⟨3, ![n, k, c]⟩ : Shape).Idx) :
    ∃ (a : Fin n) (b : Fin k) (z : Fin c), i = ValueIdx.ix3 a b z :=
  ⟨i 0, i 1, i 2, by
    funext a
    have ha : ∀ a : Fin 3, a = 0 ∨ a = 1 ∨ a = 2 := by decide
    rcases ha a with rfl | rfl | rfl <;> rfl⟩

/-- A selected cell lies on the grid. -/
theorem cell_lt (X : FVec F S4x2x262144 .f32) (i : S4x500.Idx) : (cell X i).toNat < 262144 := by
  obtain ⟨b, k, rfl⟩ := split2 i
  rw [cell_apply]
  exact cells_lt X _

/-- Positions kept as one column, at an index. -/
theorem col1_apply {α : Type} (p : S4x500.Idx → α) (b : Fin 4) (k : Fin 500) (z : Fin 1) :
    col1 p (ValueIdx.ix3 b k z) = p (ValueIdx.ix2 b k) :=
  broadcastInDim_apply _ _ p _ _ fun a => by
    have ha : ∀ a : Fin 2, a = 0 ∨ a = 1 := by decide
    rcases ha a with rfl | rfl <;> rfl

/-- Positions repeated over two channels, at an index. -/
theorem col2_apply (p : IVec S4x500 32) (b : Fin 4) (k : Fin 500) (z : Fin 2) :
    col2 p (ValueIdx.ix3 b k z) = p (ValueIdx.ix2 b k) :=
  (broadcastInDim_apply _ _ (col1 p) _ (ValueIdx.ix3 b k 0) fun a => by
    have ha : ∀ a : Fin 3, a = 0 ∨ a = 1 ∨ a = 2 := by decide
    rcases ha a with rfl | rfl | rfl <;> rfl).trans (col1_apply p b k 0)

/-- Positions repeated over three channels, at an index. -/
theorem col3_apply (p : IVec S4x500 32) (b : Fin 4) (k : Fin 500) (z : Fin 3) :
    col3 p (ValueIdx.ix3 b k z) = p (ValueIdx.ix2 b k) :=
  (broadcastInDim_apply _ _ (col1 p) _ (ValueIdx.ix3 b k 0) fun a => by
    have ha : ∀ a : Fin 3, a = 0 ∨ a = 1 ∨ a = 2 := by decide
    rcases ha a with rfl | rfl | rfl <;> rfl).trans (col1_apply p b k 0)

/-- The candidates as a column, read at the selected places by the reference's fetch, on one axis again. -/
theorem column_apply {α : Type} (fill : α) (X : FVec F S4x2x262144 .f32) (g : S4x2x500.Idx → α) (b : Fin 4) (k : Fin 500) :
    shapeCast S4x500
      (takeCol Gen.gather_S4x1000x1_S4x500x1_S4x500x1_2_1_0_0_1_2_111_wf Gen.reducesTo_S4x500x1_S4x500_d2
        Gen.bcast_S4x500_S4x500x1_0_1 1000#32 999#32 fill
        (shapeCast S4x1000x1 g Gen.shapeCasts_S4x2x500_S4x1000x1) (col1 (pos X)))
      Gen.shapeCasts_S4x500x1_S4x500 (ValueIdx.ix2 b k) = chosen X g b k := by
  have hp : ∀ i, (col1 (pos X) i).toNat < 1000 := fun i => by
    obtain ⟨b, k, z, rfl⟩ := split3 i
    rw [col1_apply]; exact pos_lt X _
  refine (shapeCast_apply _ _ _ (ValueIdx.ix3 b k 0) ?_).trans ?_
  · rewrite [Shape.rowMajor_val_three, Shape.rowMajor_val_two]
    show (b.val * 500 + k.val) * 1 + 0 = b.val * 500 + k.val
    omega
  refine (takeCol_apply _ _ _ _ _ _ _ _ (by decide) (by decide) hp b k 0).trans ?_
  have e : (col1 (pos X) (ValueIdx.ix3 b k 0)).toNat = (pos X (ValueIdx.ix2 b k)).toNat := by rw [col1_apply]
  refine shapeCast_apply g _ _ _ ((Shape.rowMajor_reshapeEquiv _ _).trans ?_)
  rewrite [Shape.rowMajor_val_two, Shape.rowMajor_val_three]
  show b.val * 1000 + (pos X (ValueIdx.ix2 b k)).toNat = (b.val * 1000 + (col1 (pos X) (ValueIdx.ix3 b k 0)).toNat) * 1 + 0
  omega

/-- The reference's selected cells are the kernel's. -/
theorem v25_eq : val_main_v25 (F := F) x0 = cell (val_main_v14 (F := F) x0) := by
  have e : val_main_v25 (F := F) x0
      = shapeCast S4x500
          (takeCol Gen.gather_S4x1000x1_S4x500x1_S4x500x1_2_1_0_0_1_2_111_wf Gen.reducesTo_S4x500x1_S4x500_d2
            Gen.bcast_S4x500_S4x500x1_0_1 1000#32 999#32 2147483648#32
            (shapeCast S4x1000x1 (val_main_v15 (F := F) x0) Gen.shapeCasts_S4x2x500_S4x1000x1)
            (col1 (pos (val_main_v14 (F := F) x0))))
          Gen.shapeCasts_S4x500x1_S4x500 := rfl
  rw [e]
  funext i
  obtain ⟨b, k, rfl⟩ := split2 i
  rw [column_apply, cell_apply, v15_eq]

/-- The reference's row coordinates are the kernel's. -/
theorem v29_eq : val_main_v29 (F := F) x0 = yOf (cell (val_main_v14 (F := F) x0)) := by
  have e : val_main_v29 (F := F) x0
      = shapeCast S4x500
          (takeCol Gen.gather_S4x1000x1_S4x500x1_S4x500x1_2_1_0_0_1_2_111_wf Gen.reducesTo_S4x500x1_S4x500_d2
            Gen.bcast_S4x500_S4x500x1_0_1 1000#32 999#32 fill
            (shapeCast S4x1000x1 (fun i => FloatOps.sitofp .f32 (divw 512#32 (val_main_v15 (F := F) x0 i)))
              Gen.shapeCasts_S4x2x500_S4x1000x1)
            (col1 (pos (val_main_v14 (F := F) x0))))
          Gen.shapeCasts_S4x500x1_S4x500 := rfl
  rw [e]
  funext i
  obtain ⟨b, k, rfl⟩ := split2 i
  rw [column_apply, v15_eq]
  show _ = FloatOps.sitofp .f32 (divw 512#32 (cell (val_main_v14 (F := F) x0) (ValueIdx.ix2 b k)))
  rw [cell_apply]
  rfl

/-- The reference's column coordinates are the kernel's. -/
theorem v33_eq : val_main_v33 (F := F) x0 = xOf (cell (val_main_v14 (F := F) x0)) := by
  have e : val_main_v33 (F := F) x0
      = shapeCast S4x500
          (takeCol Gen.gather_S4x1000x1_S4x500x1_S4x500x1_2_1_0_0_1_2_111_wf Gen.reducesTo_S4x500x1_S4x500_d2
            Gen.bcast_S4x500_S4x500x1_0_1 1000#32 999#32 fill
            (shapeCast S4x1000x1 (fun i => FloatOps.sitofp .f32 (modw 512#32 (val_main_v15 (F := F) x0 i)))
              Gen.shapeCasts_S4x2x500_S4x1000x1)
            (col1 (pos (val_main_v14 (F := F) x0))))
          Gen.shapeCasts_S4x500x1_S4x500 := rfl
  rw [e]
  funext i
  obtain ⟨b, k, rfl⟩ := split2 i
  rw [column_apply, v15_eq]
  show _ = FloatOps.sitofp .f32 (modw 512#32 (cell (val_main_v14 (F := F) x0) (ValueIdx.ix2 b k)))
  rw [cell_apply]
  rfl

/-! ## The maps at the selected cells -/

/-- The regression at the selected cells. -/
theorem v38_eq : val_main_v38 (F := F) x0 x1 = take2 (flat2 x1) (col2 (val_main_v25 (F := F) x0)) := rfl

/-- The velocity at the selected cells. -/
theorem v67_eq : val_main_v67 (F := F) x0 x5 = take2 (flat2 x5) (col2 (val_main_v25 (F := F) x0)) := rfl

/-- The height at the selected cells. -/
theorem v57_eq : val_main_v57 (F := F) x0 x2 = take1 (flat1 x2) (col1 (val_main_v25 (F := F) x0)) := rfl

/-- The exponentiated size at the selected cells. -/
theorem v62_eq : val_main_v62 (F := F) x0 x3 = take3 (flat3 (Host.exp x3)) (col3 (val_main_v25 (F := F) x0)) := rfl

/-- The first rotation channel at the selected cells. -/
theorem v48_eq : val_main_v48 (F := F) x0 x4
    = take1 (flat1 (val_main_v12 (F := F) x4)) (col1 (val_main_v25 (F := F) x0)) := rfl

/-- The second rotation channel at the selected cells. -/
theorem v52_eq : val_main_v52 (F := F) x0 x4
    = take1 (flat1 (val_main_v13 (F := F) x4)) (col1 (val_main_v25 (F := F) x0)) := rfl

/-- Three channels read at selected cells. -/
theorem take3_apply (x : FVec F S4x262144x3 .f32) (p : IVec S4x500 32) (h : ∀ i, (p i).toNat < 262144)
    (b : Fin 4) (k : Fin 500) (c : Fin 3) :
    take3 x (col3 p) (ValueIdx.ix3 b k c) = x (ValueIdx.ix3 b ⟨(p (ValueIdx.ix2 b k)).toNat, h _⟩ c) := by
  have hp : ∀ i, (col3 p i).toNat < 262144 := fun i => by
    obtain ⟨b, k, z, rfl⟩ := split3 i
    rw [col3_apply]; exact h _
  refine (takeChan_apply _ _ _ _ _ _ _ _ (by decide) (by decide) hp b k c).trans ?_
  simp only [col3_apply]

/-- Two channels read at selected cells. -/
theorem take2_apply (x : FVec F S4x262144x2 .f32) (p : IVec S4x500 32) (h : ∀ i, (p i).toNat < 262144)
    (b : Fin 4) (k : Fin 500) (c : Fin 2) :
    take2 x (col2 p) (ValueIdx.ix3 b k c) = x (ValueIdx.ix3 b ⟨(p (ValueIdx.ix2 b k)).toNat, h _⟩ c) := by
  have hp : ∀ i, (col2 p i).toNat < 262144 := fun i => by
    obtain ⟨b, k, z, rfl⟩ := split3 i
    rw [col2_apply]; exact h _
  refine (takeChan_apply _ _ _ _ _ _ _ _ (by decide) (by decide) hp b k c).trans ?_
  simp only [col2_apply]

/-- One channel read at selected cells. -/
theorem take1_apply (x : FVec F S4x262144x1 .f32) (p : IVec S4x500 32) (h : ∀ i, (p i).toNat < 262144)
    (b : Fin 4) (k : Fin 500) (z : Fin 1) :
    take1 x (col1 p) (ValueIdx.ix3 b k z) = x (ValueIdx.ix3 b ⟨(p (ValueIdx.ix2 b k)).toNat, h _⟩ z) := by
  have hp : ∀ i, (col1 p i).toNat < 262144 := fun i => by
    obtain ⟨b, k, z, rfl⟩ := split3 i
    rw [col1_apply]; exact h _
  refine (takeCol_apply _ _ _ _ _ _ _ _ (by decide) (by decide) hp b k z).trans ?_
  simp only [col1_apply]

/-- Exponentiating a map before reading it is exponentiating what is read. -/
theorem exp_take3 (x : FVec F S4x3x512x512 .f32) (p : IVec S4x500 32) (h : ∀ i, (p i).toNat < 262144) :
    take3 (flat3 (Host.exp x)) (col3 p) = Host.exp (take3 (flat3 x) (col3 p)) := by
  funext i
  obtain ⟨b, k, c, rfl⟩ := split3 i
  rw [take3_apply _ p h]
  show _ = FloatOps.hostUnary .exp (take3 (flat3 x) (col3 p) (ValueIdx.ix3 b k c))
  rw [take3_apply _ p h]
  rfl

/-- A two-channel map with its channels last, at a cell. -/
theorem flat2_apply (x : FVec F S4x2x512x512 .f32) (b : Fin 4) (n : Fin 262144) (c : Fin 2) :
    flat2 x (ValueIdx.ix3 b n c)
      = x (ValueIdx.ix4 b c (⟨n.val / 512, by omega⟩ : Fin 512) (⟨n.val % 512, by omega⟩ : Fin 512)) := by
  refine (shapeCast_apply _ _ _
    (ValueIdx.ix4 b (⟨n.val / 512, by omega⟩ : Fin 512) (⟨n.val % 512, by omega⟩ : Fin 512) c) ?_).trans ?_
  · rewrite [Shape.rowMajor_val_four, Shape.rowMajor_val_three]
    show ((b.val * 512 + n.val / 512) * 512 + n.val % 512) * 2 + c.val = (b.val * 262144 + n.val) * 2 + c.val
    omega
  · refine transpose_apply _ x _ _ _ fun a => ?_
    have ha : ∀ a : Fin 4, a = 0 ∨ a = 1 ∨ a = 2 ∨ a = 3 := by decide
    rcases ha a with rfl | rfl | rfl | rfl <;> rfl

/-- A one-channel map with its channel last, at a cell. -/
theorem flat1_apply (x : FVec F S4x1x512x512 .f32) (b : Fin 4) (n : Fin 262144) (z : Fin 1) :
    flat1 x (ValueIdx.ix3 b n z)
      = x (ValueIdx.ix4 b z (⟨n.val / 512, by omega⟩ : Fin 512) (⟨n.val % 512, by omega⟩ : Fin 512)) := by
  refine (shapeCast_apply _ _ _
    (ValueIdx.ix4 b (⟨n.val / 512, by omega⟩ : Fin 512) (⟨n.val % 512, by omega⟩ : Fin 512) z) ?_).trans ?_
  · rewrite [Shape.rowMajor_val_four, Shape.rowMajor_val_three]
    show ((b.val * 512 + n.val / 512) * 512 + n.val % 512) * 1 + z.val = (b.val * 262144 + n.val) * 1 + z.val
    omega
  · refine transpose_apply _ x _ _ _ fun a => ?_
    have ha : ∀ a : Fin 4, a = 0 ∨ a = 1 ∨ a = 2 ∨ a = 3 := by decide
    rcases ha a with rfl | rfl | rfl | rfl <;> rfl

/-- The first rotation channel split off before reading is the first channel of what is read. -/
theorem rot_first (p : IVec S4x500 32) (h : ∀ i, (p i).toNat < 262144) :
    take1 (flat1 (val_main_v12 (F := F) x4)) (col1 p) = fst2 (take2 (flat2 x4) (col2 p)) := by
  have ha : ∀ a : Fin 4, a = 0 ∨ a = 1 ∨ a = 2 ∨ a = 3 := by decide
  have hb : ∀ a : Fin 3, a = 0 ∨ a = 1 ∨ a = 2 := by decide
  funext i
  obtain ⟨b, k, z, rfl⟩ := split3 i
  have er : fst2 (take2 (flat2 x4) (col2 p)) (ValueIdx.ix3 b k z) = take2 (flat2 x4) (col2 p) (ValueIdx.ix3 b k 0) := by
    refine extractStridedSlice_apply _ _ _ _ _ fun a => ?_
    rcases hb a with rfl | rfl | rfl
    · exact (Nat.zero_add _).symm
    · exact (Nat.zero_add _).symm
    · show 0 = 0 + z.val
      omega
  rw [take1_apply _ p h, er, take2_apply _ p h, flat1_apply, flat2_apply]
  unfold val_main_v12
  refine extractStridedSlice_apply _ _ _ _ _ fun a => ?_
  rcases ha a with rfl | rfl | rfl | rfl
  · exact (Nat.zero_add _).symm
  · show 0 = 0 + z.val
    omega
  · exact (Nat.zero_add _).symm
  · exact (Nat.zero_add _).symm

/-- The second rotation channel split off before reading is the second channel of what is read. -/
theorem rot_second (p : IVec S4x500 32) (h : ∀ i, (p i).toNat < 262144) :
    take1 (flat1 (val_main_v13 (F := F) x4)) (col1 p) = snd2 (take2 (flat2 x4) (col2 p)) := by
  have ha : ∀ a : Fin 4, a = 0 ∨ a = 1 ∨ a = 2 ∨ a = 3 := by decide
  have hb : ∀ a : Fin 3, a = 0 ∨ a = 1 ∨ a = 2 := by decide
  funext i
  obtain ⟨b, k, z, rfl⟩ := split3 i
  have er : snd2 (take2 (flat2 x4) (col2 p)) (ValueIdx.ix3 b k z) = take2 (flat2 x4) (col2 p) (ValueIdx.ix3 b k 1) := by
    refine extractStridedSlice_apply _ _ _ _ _ fun a => ?_
    rcases hb a with rfl | rfl | rfl
    · exact (Nat.zero_add _).symm
    · exact (Nat.zero_add _).symm
    · show 1 = 1 + z.val
      omega
  rw [take1_apply _ p h, er, take2_apply _ p h, flat1_apply, flat2_apply]
  unfold val_main_v13
  refine extractStridedSlice_apply _ _ _ _ _ fun a => ?_
  rcases ha a with rfl | rfl | rfl | rfl
  · exact (Nat.zero_add _).symm
  · show 1 = 1 + z.val
    omega
  · exact (Nat.zero_add _).symm
  · exact (Nat.zero_add _).symm

/-! ## The boxes and the scores -/

/-- Scaling by four and then by a fifth is scaling by four fifths, for the three constants the programs hold. -/
theorem scale (x : EReal) :
    x * Ideal.ofBits .f32 0x40800000#32 * Ideal.ofBits .f32 0x3E4CCCCD#32 = x * Ideal.ofBits .f32 0x3F4CCCCD#32 := by
  rw [mul_assoc]
  congr 1
  simp [Ideal.ofBits, Ideal.ieee, -EReal.coe_mul]
  norm_num [← EReal.coe_mul]

/-- The reference's two-step conversion to metres is the kernel's. -/
theorem metres_eq (x : FVec Ideal S4x500x1 .f32) :
    addf (mulf (mulf x (val_main_v68 (F := Ideal))) (val_main_v70 (F := Ideal))) (val_main_v72 (F := Ideal))
      = metres x := by
  funext i
  exact congrArg (fun t => t + Ideal.ofBits .f32 0xC24CCCCD#32) (scale (x i))

/-- The boxes are equal. -/
theorem boxes_eq (x0 x1 : FVec Ideal S4x2x512x512 .f32) (x2 : FVec Ideal S4x1x512x512 .f32)
    (x3 : FVec Ideal S4x3x512x512 .f32) (x4 x5 : FVec Ideal S4x2x512x512 .f32) :
    val_main_v80 (F := Ideal) x0 x1 x2 x3 x4 x5 = boxes (val_main_v14 (F := Ideal) x0) x1 x2 x3 x4 x5 := by
  have ex : val_main_v73 (F := Ideal) x0 x1
      = metres (F := Ideal) (addf (F := Ideal) (col1 (val_main_v33 (F := Ideal) x0)) (fst2 (F := Ideal) (val_main_v38 (F := Ideal) x0 x1))) := metres_eq _
  have ey : val_main_v79 (F := Ideal) x0 x1
      = metres (F := Ideal) (addf (F := Ideal) (col1 (val_main_v29 (F := Ideal) x0)) (snd2 (F := Ideal) (val_main_v38 (F := Ideal) x0 x1))) := metres_eq _
  have er : val_main_v53 (F := Ideal) x0 x4
      = Host.atan2 (F := Ideal) (φ := .f32) (val_main_v48 (F := Ideal) x0 x4) (val_main_v52 (F := Ideal) x0 x4) := rfl
  have e : val_main_v80 (F := Ideal) x0 x1 x2 x3 x4 x5
      = glue (F := Ideal) (val_main_v73 (F := Ideal) x0 x1) (val_main_v79 (F := Ideal) x0 x1) (val_main_v57 (F := Ideal) x0 x2)
          (val_main_v62 (F := Ideal) x0 x3) (val_main_v53 (F := Ideal) x0 x4) (val_main_v67 (F := Ideal) x0 x5) := rfl
  have hc := cell_lt (F := Ideal) (val_main_v14 (F := Ideal) x0)
  rw [e, ex, ey, er, v48_eq, v52_eq, v57_eq, v62_eq, v67_eq, v38_eq, v29_eq, v33_eq, v25_eq, exp_take3 _ _ hc,
    rot_first _ _ hc, rot_second _ _ hc]
  rfl

/-- The scores are equal. -/
theorem scores_eq (x0 x1 : FVec F S4x2x512x512 .f32) (x2 : FVec F S4x1x512x512 .f32)
    (x3 : FVec F S4x3x512x512 .f32) (x4 x5 : FVec F S4x2x512x512 .f32) :
    val_main_v92 (F := F) x0 x1 x2 x3 x4 x5
      = scores (F := F) (val_main_v14 (F := F) x0) (val_main_v80 (F := F) x0 x1 x2 x3 x4 x5) := rfl

end Cert.Compare
-- ==== Proof.lean ====
/- The proof of the certificate's claim: the three programs terminate, leave their arguments unchanged and every
   semaphore counter at zero; the ideal kernel is the kernel read over the extended reals; and from equal arguments
   the ideal kernel and the ideal reference leave equal boxes, scores and labels.

   The kernel's run is the module `KRun`, the reference's is generated, and the equality of the functions they compute
   is `Nms` for the suppression and `Compare` for everything after it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Compare
public import Idealize.ShloMosaic.Adequacy
public import Idealize.ShloMosaic.Init

@[expose] public section

noncomputable section

namespace Cert.Proof

open Idealize.ShloMosaic Idealize.SL.Sem Cert.Kernel

/-- The reference terminates with its arguments unchanged; it declares no semaphore, so every counter is zero. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- From equal arguments the kernel and the reference leave equal boxes, scores and labels. -/
theorem algebraic : Cert.algebraic_KernelIdeal_ReferenceIdeal := by
  intro m g m' g' _ hargs
  refine ⟨Cert.KernelIdeal.Tail.kBoxes m, Cert.KernelIdeal.Tail.kScores m, Cert.KernelIdeal.Tail.kLabels m,
    Cert.KernelIdeal.Tail.run (F := Ideal) m g, ?_⟩
  refine (θ_run Cert.ReferenceIdeal.defs _ _).mono (fun r h c => ?_) (Cert.ReferenceIdeal.Value.run (F := Ideal) m' g')
  obtain ⟨hb, hs, hl, hrest⟩ := h c
  obtain ⟨e0, e1, e2, e3, e4, e5⟩ := hargs c
  have eb : Cert.ReferenceIdeal.Read.val_main_v80 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
      = Cert.KernelIdeal.Tail.kBoxes m c := by
    rw [e0, e1, e2, e3, e4, e5, Cert.Compare.boxes_eq, ← Cert.Decode.flat_eq]
    rfl
  refine ⟨hb.trans ((Cert.ReferenceIdeal.Read.val_main_v80_eq _).trans eb), hs.trans
    ((Cert.ReferenceIdeal.Read.val_main_v92_eq _).trans ?_),
    hl.trans ((Cert.ReferenceIdeal.Read.val_main_v21_eq _).trans ?_), hrest⟩
  · refine (Cert.Compare.scores_eq (F := Ideal) _ _ _ _ _ _).trans ?_
    refine (congrArg (Cert.KernelIdeal.Tail.scores (F := Ideal) _) eb).trans ?_
    refine congrArg (fun X => Cert.KernelIdeal.Tail.scores (F := Ideal) X (Cert.KernelIdeal.Tail.kBoxes m c)) ?_
    exact (Cert.Decode.flat_eq _).symm.trans (congrArg (Cert.KernelIdeal.Tail.flat (F := Ideal)) e0)
  · refine (Cert.Compare.labels_eq (F := Ideal) _).trans ?_
    refine congrArg (Cert.KernelIdeal.Tail.labels (F := Ideal)) ?_
    exact (Cert.Decode.flat_eq _).symm.trans (congrArg (Cert.KernelIdeal.Tail.flat (F := Ideal)) e0)

/-- The whole certificate: the three frames, the idealization, and the equality of the two programs' results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
